-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v75)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v75) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S64x8x512x256 : Shape := ⟨4, ![64, 8, 512, 256]⟩
abbrev S32768x256 : Shape := ⟨2, ![32768, 256]⟩
abbrev S_ : Shape := ⟨0, ![]⟩

class Facts : Prop where
  bitsLt_bf16_f32 : FTy.bits .bf16 < FTy.bits .f32
  bcast_S_S64x8x512x256 : S_.BroadcastsInDim S64x8x512x256 (![] : Fin 0 → Fin S64x8x512x256.rank)
  bcast_S_S32768x256 : S_.BroadcastsInDim S32768x256 (![] : Fin 0 → Fin S32768x256.rank)

variable [Facts]

def fn {F : FTy → Type} [FloatOps F] (main_arg0 : FVec F S64x8x512x256 .bf16) (main_arg1 : FVec F S32768x256 .bf16) : IVec S64x8x512x256 1 × IVec S32768x256 1 :=
  let main_v0 : FVec F S64x8x512x256 .f32 := (extf .f32 · bitsLt_bf16_f32) main_arg0
  let main_v1 : FVec F S64x8x512x256 .f32 := Host.absf main_v0
  let main_cst : FVec F S_ .f32 := constant S_ .f32 0x7F800000#32
  let main_v2 : FVec F S64x8x512x256 .f32 := broadcastInDim S64x8x512x256 ![] bcast_S_S64x8x512x256 main_cst
  let main_v3 : IVec S64x8x512x256 1 := cmpf .olt main_v1 main_v2
  let main_v4 : FVec F S32768x256 .f32 := (extf .f32 · bitsLt_bf16_f32) main_arg1
  let main_v5 : FVec F S32768x256 .f32 := Host.absf main_v4
  let main_cst_0 : FVec F S_ .f32 := constant S_ .f32 0x7F800000#32
  let main_v6 : FVec F S32768x256 .f32 := broadcastInDim S32768x256 ![] bcast_S_S32768x256 main_cst_0
  let main_v7 : IVec S32768x256 1 := cmpf .olt main_v5 main_v6
  (main_v3, main_v7)
-- ==== Kernel.lean ====
abbrev S64x8x512x256 : Shape := ⟨4, ![64, 8, 512, 256]⟩
abbrev S32768x256 : Shape := ⟨2, ![32768, 256]⟩
abbrev S64x4096x256 : Shape := ⟨3, ![64, 4096, 256]⟩
abbrev S4x8192x256 : Shape := ⟨3, ![4, 8192, 256]⟩
abbrev S4x8192x1024 : Shape := ⟨3, ![4, 8192, 1024]⟩
abbrev S1x4096x256 : Shape := ⟨3, ![1, 4096, 256]⟩
abbrev S1x8192x256 : Shape := ⟨3, ![1, 8192, 256]⟩
abbrev S1x512x1024 : Shape := ⟨3, ![1, 512, 1024]⟩
abbrev S4096x128 : Shape := ⟨2, ![4096, 128]⟩
abbrev S4096x256 : Shape := ⟨2, ![4096, 256]⟩
abbrev S4096x512 : Shape := ⟨2, ![4096, 512]⟩
abbrev S512x128 : Shape := ⟨2, ![512, 128]⟩
abbrev S1x512x256 : Shape := ⟨3, ![1, 512, 256]⟩
abbrev S512x256 : Shape := ⟨2, ![512, 256]⟩
abbrev S4096 : Shape := ⟨1, ![4096]⟩
abbrev S4096x1 : Shape := ⟨2, ![4096, 1]⟩
abbrev S1x512x128 : Shape := ⟨3, ![1, 512, 128]⟩

abbrev nBuf : Space → Nat
  | .hbm => 5
  | .vmem => 11
  | .smem => 0
  | _ => 0

abbrev bufTy : (tb : Table) → Fin (tcTables nBuf tb) → BufTy
  | .hbm, ⟨0, _⟩ => ⟨S64x8x512x256, .bf16⟩
  | .hbm, ⟨1, _⟩ => ⟨S32768x256, .bf16⟩
  | .hbm, ⟨2, _⟩ => ⟨S64x4096x256, .bf16⟩
  | .hbm, ⟨3, _⟩ => ⟨S4x8192x256, .bf16⟩
  | .hbm, ⟨4, _⟩ => ⟨S4x8192x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x512x1024, .bf16⟩
  | .local _ .vmem, ⟨7, _⟩ => ⟨S1x512x1024, .bf16⟩
  | .local _ .vmem, ⟨8, _⟩ => ⟨S4096x128, .f32⟩
  | .local _ .vmem, ⟨9, _⟩ => ⟨S4096x256, .f32⟩
  | .local _ .vmem, ⟨10, _⟩ => ⟨S4096x512, .f32⟩
  | _, _ => ⟨S64x8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def k0_mult1 : BitVec 32 :=
  let c0_i32_58 : BitVec 32 := 0#32
  c0_i32_58
@[reducible] def k0_t1_loop (i : grid0.Coords) : Scf.Loop 32 :=
  let c0_i32_10 : BitVec 32 := 0#32
  let arg1 : BitVec 32 := BitVec.ofNat 32 (i 1).val
  let c1_i32 : BitVec 32 := 1#32
  let v14 : BitVec 32 := Scalar.subi arg1 c1_i32
  let v15 : BitVec 32 := Scalar.subi v14 c0_i32_10
  let c1_i32_11 : BitVec 32 := 1#32
  let v17 : BitVec 32 := Scalar.divsi v15 c1_i32_11
  let v18 : BitVec 32 := Scalar.muli v17 c1_i32_11
  let v19 : BitVec 32 := Scalar.addi c0_i32_10 v18
  let c1_i32_12 : BitVec 32 := 1#32
  ⟨c0_i32_10, v19, c1_i32_12⟩
def k0_mult2 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c1_i32_60 : BitVec 32 := 1#32
  let v100 : BitVec 32 := Scalar.addi arg9 c1_i32_60
  let c512_i32_61 : BitVec 32 := 512#32
  let v101 : BitVec 32 := Scalar.muli v100 c512_i32_61
  v101
def k0_off1 (i : grid0.Coords) (k0_t1 : Fin (k0_t1_loop i).trips) : Fin 3 → Nat :=
  let c0_62 : Index := 0#32
  let c0_i32_10 : BitVec 32 := 0#32
  let c1_i32_12 : BitVec 32 := 1#32
  let arg9 : BitVec 32 := Scf.iv c0_i32_10 c1_i32_12 k0_t1
  let c1_i32_60 : BitVec 32 := 1#32
  let v100 : BitVec 32 := Scalar.addi arg9 c1_i32_60
  let c512_i32_61 : BitVec 32 := 512#32
  let v101 : BitVec 32 := Scalar.muli v100 c512_i32_61
  let v102 : BitVec 32 := v101
  let v103 : Index := Scalar.indexCast v102
  let c0_63 : Index := 0#32
  ![0, v103.toNat, 0]
def k0_mult3 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c512_i32_68 : BitVec 32 := 512#32
  let v118 : BitVec 32 := Scalar.muli arg9 c512_i32_68
  v118
def k0_off2 (i : grid0.Coords) (k0_t1 : Fin (k0_t1_loop i).trips) : Fin 3 → Nat :=
  let c0_69 : Index := 0#32
  let c0_i32_10 : BitVec 32 := 0#32
  let c1_i32_12 : BitVec 32 := 1#32
  let arg9 : BitVec 32 := Scf.iv c0_i32_10 c1_i32_12 k0_t1
  let c512_i32_68 : BitVec 32 := 512#32
  let v118 : BitVec 32 := Scalar.muli arg9 c512_i32_68
  let v119 : BitVec 32 := v118
  let v120 : Index := Scalar.indexCast v119
  let c0_70 : Index := 0#32
  ![0, v120.toNat, 0]
@[reducible] def k0_t2_loop (i : grid0.Coords) : Scf.Loop 32 :=
  let c0_i32_10 : BitVec 32 := 0#32
  let arg1 : BitVec 32 := BitVec.ofNat 32 (i 1).val
  let c1_i32 : BitVec 32 := 1#32
  let v14 : BitVec 32 := Scalar.subi arg1 c1_i32
  let v15 : BitVec 32 := Scalar.subi v14 c0_i32_10
  let c1_i32_11 : BitVec 32 := 1#32
  let v17 : BitVec 32 := Scalar.divsi v15 c1_i32_11
  let v18 : BitVec 32 := Scalar.muli v17 c1_i32_11
  let v19 : BitVec 32 := Scalar.addi c0_i32_10 v18
  let v16 : BitVec 32 := Scalar.addi c0_i32_10 v15
  let c1_i32_13 : BitVec 32 := 1#32
  ⟨v19, v16, c1_i32_13⟩
def k0_mult4 (i : grid0.Coords) (k0_t2 : Fin (k0_t2_loop i).trips) : BitVec 32 :=
  let c0_i32_10 : BitVec 32 := 0#32
  let arg1 : BitVec 32 := BitVec.ofNat 32 (i 1).val
  let c1_i32 : BitVec 32 := 1#32
  let v14 : BitVec 32 := Scalar.subi arg1 c1_i32
  let v15 : BitVec 32 := Scalar.subi v14 c0_i32_10
  let c1_i32_11 : BitVec 32 := 1#32
  let v17 : BitVec 32 := Scalar.divsi v15 c1_i32_11
  let v18 : BitVec 32 := Scalar.muli v17 c1_i32_11
  let v19 : BitVec 32 := Scalar.addi c0_i32_10 v18
  let c1_i32_13 : BitVec 32 := 1#32
  let arg9 : BitVec 32 := Scf.iv v19 c1_i32_13 k0_t2
  let c1_i32_60 : BitVec 32 := 1#32
  let v100 : BitVec 32 := Scalar.addi arg9 c1_i32_60
  let c512_i32_61 : BitVec 32 := 512#32
  let v101 : BitVec 32 := Scalar.muli v100 c512_i32_61
  v101
def k0_off3 (i : grid0.Coords) (k0_t2 : Fin (k0_t2_loop i).trips) : Fin 3 → Nat :=
  let c0_62 : Index := 0#32
  let c0_i32_10 : BitVec 32 := 0#32
  let arg1 : BitVec 32 := BitVec.ofNat 32 (i 1).val
  let c1_i32 : BitVec 32 := 1#32
  let v14 : BitVec 32 := Scalar.subi arg1 c1_i32
  let v15 : BitVec 32 := Scalar.subi v14 c0_i32_10
  let c1_i32_11 : BitVec 32 := 1#32
  let v17 : BitVec 32 := Scalar.divsi v15 c1_i32_11
  let v18 : BitVec 32 := Scalar.muli v17 c1_i32_11
  let v19 : BitVec 32 := Scalar.addi c0_i32_10 v18
  let c1_i32_13 : BitVec 32 := 1#32
  let arg9 : BitVec 32 := Scf.iv v19 c1_i32_13 k0_t2
  let c1_i32_60 : BitVec 32 := 1#32
  let v100 : BitVec 32 := Scalar.addi arg9 c1_i32_60
  let c512_i32_61 : BitVec 32 := 512#32
  let v101 : BitVec 32 := Scalar.muli v100 c512_i32_61
  let v102 : BitVec 32 := v101
  let v103 : Index := Scalar.indexCast v102
  let c0_63 : Index := 0#32
  ![0, v103.toNat, 0]
def k0_mult5 (i : grid0.Coords) (k0_t2 : Fin (k0_t2_loop i).trips) : BitVec 32 :=
  let c0_i32_10 : BitVec 32 := 0#32
  let arg1 : BitVec 32 := BitVec.ofNat 32 (i 1).val
  let c1_i32 : BitVec 32 := 1#32
  let v14 : BitVec 32 := Scalar.subi arg1 c1_i32
  let v15 : BitVec 32 := Scalar.subi v14 c0_i32_10
  let c1_i32_11 : BitVec 32 := 1#32
  let v17 : BitVec 32 := Scalar.divsi v15 c1_i32_11
  let v18 : BitVec 32 := Scalar.muli v17 c1_i32_11
  let v19 : BitVec 32 := Scalar.addi c0_i32_10 v18
  let c1_i32_13 : BitVec 32 := 1#32
  let arg9 : BitVec 32 := Scf.iv v19 c1_i32_13 k0_t2
  let c512_i32_68 : BitVec 32 := 512#32
  let v118 : BitVec 32 := Scalar.muli arg9 c512_i32_68
  v118
def k0_off4 (i : grid0.Coords) (k0_t2 : Fin (k0_t2_loop i).trips) : Fin 3 → Nat :=
  let c0_69 : Index := 0#32
  let c0_i32_10 : BitVec 32 := 0#32
  let arg1 : BitVec 32 := BitVec.ofNat 32 (i 1).val
  let c1_i32 : BitVec 32 := 1#32
  let v14 : BitVec 32 := Scalar.subi arg1 c1_i32
  let v15 : BitVec 32 := Scalar.subi v14 c0_i32_10
  let c1_i32_11 : BitVec 32 := 1#32
  let v17 : BitVec 32 := Scalar.divsi v15 c1_i32_11
  let v18 : BitVec 32 := Scalar.muli v17 c1_i32_11
  let v19 : BitVec 32 := Scalar.addi c0_i32_10 v18
  let c1_i32_13 : BitVec 32 := 1#32
  let arg9 : BitVec 32 := Scf.iv v19 c1_i32_13 k0_t2
  let c512_i32_68 : BitVec 32 := 512#32
  let v118 : BitVec 32 := Scalar.muli arg9 c512_i32_68
  let v119 : BitVec 32 := v118
  let v120 : Index := Scalar.indexCast v119
  let c0_70 : Index := 0#32
  ![0, v120.toNat, 0]
def k0_cond2 (i : grid0.Coords) : BitVec 1 :=
  let arg1 : BitVec 32 := BitVec.ofNat 32 (i 1).val
  let c0_i32_14 : BitVec 32 := 0#32
  let v20 : BitVec 1 := Scalar.cmpi .sgt arg1 c0_i32_14
  let v21 : BitVec 32 := Scalar.extui v20
  let c0_i32_15 : BitVec 32 := 0#32
  let v22 : BitVec 1 := Scalar.cmpi .ne v21 c0_i32_15
  v22

def k0_mult6 (i : grid0.Coords) : BitVec 32 :=
  let arg1 : BitVec 32 := BitVec.ofNat 32 (i 1).val
  let c512_i32_61 : BitVec 32 := 512#32
  let v101 : BitVec 32 := Scalar.muli arg1 c512_i32_61
  v101
def k0_off5 (i : grid0.Coords) : Fin 3 → Nat :=
  let c0_62 : Index := 0#32
  let arg1 : BitVec 32 := BitVec.ofNat 32 (i 1).val
  let c512_i32_61 : BitVec 32 := 512#32
  let v101 : BitVec 32 := Scalar.muli arg1 c512_i32_61
  let v102 : BitVec 32 := v101
  let v103 : Index := Scalar.indexCast v102
  let c0_63 : Index := 0#32
  ![0, v103.toNat, 0]
def k0_mult7 (i : grid0.Coords) : BitVec 32 :=
  let arg1 : BitVec 32 := BitVec.ofNat 32 (i 1).val
  let c1_i32_58 : BitVec 32 := 1#32
  let v99 : BitVec 32 := Scalar.subi arg1 c1_i32_58
  let c512_i32_75 : BitVec 32 := 512#32
  let v139 : BitVec 32 := Scalar.muli v99 c512_i32_75
  v139
def k0_off6 (i : grid0.Coords) : Fin 3 → Nat :=
  let c0_76 : Index := 0#32
  let arg1 : BitVec 32 := BitVec.ofNat 32 (i 1).val
  let c1_i32_58 : BitVec 32 := 1#32
  let v99 : BitVec 32 := Scalar.subi arg1 c1_i32_58
  let c512_i32_75 : BitVec 32 := 512#32
  let v139 : BitVec 32 := Scalar.muli v99 c512_i32_75
  let v140 : BitVec 32 := v139
  let v141 : Index := Scalar.indexCast v140
  let c0_77 : Index := 0#32
  ![0, v141.toNat, 0]
def k0_mult8 : BitVec 32 :=
  let c0_i32_21 : BitVec 32 := 0#32
  c0_i32_21
def k0_mult9 (i : grid0.Coords) : BitVec 32 :=
  let arg1 : BitVec 32 := BitVec.ofNat 32 (i 1).val
  let c512_i32 : BitVec 32 := 512#32
  let v42 : BitVec 32 := Scalar.muli arg1 c512_i32
  v42
def k0_off7 (i : grid0.Coords) : Fin 3 → Nat :=
  let c0_28 : Index := 0#32
  let arg1 : BitVec 32 := BitVec.ofNat 32 (i 1).val
  let c512_i32 : BitVec 32 := 512#32
  let v42 : BitVec 32 := Scalar.muli arg1 c512_i32
  let v43 : BitVec 32 := v42
  let v44 : Index := Scalar.indexCast v43
  let c0_29 : Index := 0#32
  ![0, v44.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S64x8x512x256 : Shape := ⟨4, ![64, 8, 512, 256]⟩
abbrev S32768x256 : Shape := ⟨2, ![32768, 256]⟩
abbrev S4x16x8x512x256 : Shape := ⟨5, ![4, 16, 8, 512, 256]⟩
abbrev S4x8x16x512x256 : Shape := ⟨5, ![4, 8, 16, 512, 256]⟩
abbrev S4x8x8192x256 : Shape := ⟨4, ![4, 8, 8192, 256]⟩
abbrev S4x8192x256 : Shape := ⟨3, ![4, 8192, 256]⟩
abbrev S4x8x8192x8192 : Shape := ⟨4, ![4, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8192x128 : Shape := ⟨3, ![4, 8192, 128]⟩
abbrev S4x128x8x8192 : Shape := ⟨4, ![4, 128, 8, 8192]⟩
abbrev S4x8192x8x128 : Shape := ⟨4, ![4, 8192, 8, 128]⟩
abbrev S4x8192x1024 : Shape := ⟨3, ![4, 8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S64x8x512x256, .bf16⟩
  | .hbm, ⟨1, _⟩ => ⟨S32768x256, .bf16⟩
  | .hbm, ⟨2, _⟩ => ⟨S64x8x512x256, .f32⟩
  | .hbm, ⟨3, _⟩ => ⟨S4x16x8x512x256, .f32⟩
  | .hbm, ⟨4, _⟩ => ⟨S4x8x16x512x256, .f32⟩
  | .hbm, ⟨5, _⟩ => ⟨S4x8x8192x256, .f32⟩
  | .hbm, ⟨6, _⟩ => ⟨S32768x256, .f32⟩
  | .hbm, ⟨7, _⟩ => ⟨S4x8192x256, .f32⟩
  | .hbm, ⟨8, _⟩ => ⟨S4x8x8192x8192, .f32⟩
  | .hbm, ⟨9, _⟩ => ⟨S_, .f32⟩
  | .hbm, ⟨10, _⟩ => ⟨S_, .f32⟩
  | .hbm, ⟨11, _⟩ => ⟨S4x8x8192x8192, .f32⟩
  | .hbm, ⟨12, _⟩ => ⟨S4x8x8192x8192, .f32⟩
  | .hbm, ⟨13, _⟩ => ⟨S8192, .i32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x1x8192x8192, .i1⟩
  | .hbm, ⟨20, _⟩ => ⟨S_, .f32⟩
  | .hbm, ⟨21, _⟩ => ⟨S_, .f32⟩
  | .hbm, ⟨22, _⟩ => ⟨S4x8x8192x8192, .i1⟩
  | .hbm, ⟨23, _⟩ => ⟨S4x8x8192x8192, .f32⟩
  | .hbm, ⟨24, _⟩ => ⟨S4x8x8192x8192, .f32⟩
  | .hbm, ⟨25, _⟩ => ⟨S_, .f32⟩
  | .hbm, ⟨26, _⟩ => ⟨S4x8x8192, .f32⟩
  | .hbm, ⟨27, _⟩ => ⟨S_, .f32⟩
  | .hbm, ⟨28, _⟩ => ⟨S4x8x8192, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S4x8x8192, .f32⟩
  | .hbm, ⟨36, _⟩ => ⟨S4x8x8192x1, .f32⟩
  | .hbm, ⟨37, _⟩ => ⟨S4x8x8192x8192, .f32⟩
  | .hbm, ⟨38, _⟩ => ⟨S4x8x8192x8192, .f32⟩
  | .hbm, ⟨39, _⟩ => ⟨S4x8192x128, .f32⟩
  | .hbm, ⟨40, _⟩ => ⟨S4x128x8x8192, .f32⟩
  | .hbm, ⟨41, _⟩ => ⟨S4x8192x8x128, .f32⟩
  | .hbm, ⟨42, _⟩ => ⟨S4x8192x1024, .f32⟩
  | .hbm, ⟨43, _⟩ => ⟨S4x8192x1024, .bf16⟩
  | _, _ => ⟨S64x8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S128x8x64 : Shape := ⟨3, ![128, 8, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x128x64 : Shape := ⟨3, ![8, 128, 64]⟩
abbrev S4x2x128x64 : Shape := ⟨4, ![4, 2, 128, 64]⟩
abbrev S1x2x128x64 : Shape := ⟨4, ![1, 2, 128, 64]⟩
abbrev S2x128x64 : Shape := ⟨3, ![2, 128, 64]⟩
abbrev S2x2 : Shape := ⟨2, ![2, 2]⟩
abbrev S_ : Shape := ⟨0, ![]⟩
abbrev S2x1x2x1 : Shape := ⟨4, ![2, 1, 2, 1]⟩
abbrev S2x128x1x64 : Shape := ⟨4, ![2, 128, 1, 64]⟩
abbrev S2x128x2x64 : Shape := ⟨4, ![2, 128, 2, 64]⟩
abbrev S256x128 : Shape := ⟨2, ![256, 128]⟩
abbrev S1x256x128 : Shape := ⟨3, ![1, 256, 128]⟩
abbrev S4x256x128 : Shape := ⟨3, ![4, 256, 128]⟩
abbrev S512x1024 : Shape := ⟨2, ![512, 1024]⟩
abbrev S1x1024 : Shape := ⟨2, ![1, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S256x1024 : Shape := ⟨2, ![256, 1024]⟩

abbrev nBuf : Space → Nat
  | .hbm => 92
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S128x8x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S8x128x64, .f32⟩
  | .hbm, ⟨13, _⟩ => ⟨S4x2x128x64, .f32⟩
  | .hbm, ⟨14, _⟩ => ⟨S1x2x128x64, .f32⟩
  | .hbm, ⟨15, _⟩ => ⟨S2x128x64, .f32⟩
  | .hbm, ⟨16, _⟩ => ⟨S1x2x128x64, .f32⟩
  | .hbm, ⟨17, _⟩ => ⟨S2x128x64, .f32⟩
  | .hbm, ⟨18, _⟩ => ⟨S1x2x128x64, .f32⟩
  | .hbm, ⟨19, _⟩ => ⟨S2x128x64, .f32⟩
  | .hbm, ⟨20, _⟩ => ⟨S1x2x128x64, .f32⟩
  | .hbm, ⟨21, _⟩ => ⟨S2x128x64, .f32⟩
  | .hbm, ⟨22, _⟩ => ⟨S2x2, .i32⟩
  | .hbm, ⟨23, _⟩ => ⟨S2x2, .i32⟩
  | .hbm, ⟨24, _⟩ => ⟨S_, .i32⟩
  | .hbm, ⟨25, _⟩ => ⟨S2x2, .i32⟩
  | .hbm, ⟨26, _⟩ => ⟨S2x2, .i32⟩
  | .hbm, ⟨27, _⟩ => ⟨S2x2, .i1⟩
  | .hbm, ⟨28, _⟩ => ⟨S2x2, .f32⟩
  | .hbm, ⟨29, _⟩ => ⟨S2x1x2x1, .f32⟩
  | .hbm, ⟨30, _⟩ => ⟨S2x128x1x64, .f32⟩
  | .hbm, ⟨31, _⟩ => ⟨S2x128x2x64, .f32⟩
  | .hbm, ⟨32, _⟩ => ⟨S2x128x2x64, .f32⟩
  | .hbm, ⟨33, _⟩ => ⟨S2x128x2x64, .f32⟩
  | .hbm, ⟨34, _⟩ => ⟨S256x128, .f32⟩
  | .hbm, ⟨35, _⟩ => ⟨S2x2, .i32⟩
  | .hbm, ⟨36, _⟩ => ⟨S2x2, .i32⟩
  | .hbm, ⟨37, _⟩ => ⟨S_, .i32⟩
  | .hbm, ⟨38, _⟩ => ⟨S2x2, .i32⟩
  | .hbm, ⟨39, _⟩ => ⟨S2x2, .i32⟩
  | .hbm, ⟨40, _⟩ => ⟨S2x2, .i1⟩
  | .hbm, ⟨41, _⟩ => ⟨S2x2, .f32⟩
  | .hbm, ⟨42, _⟩ => ⟨S2x1x2x1, .f32⟩
  | .hbm, ⟨43, _⟩ => ⟨S2x128x1x64, .f32⟩
  | .hbm, ⟨44, _⟩ => ⟨S2x128x2x64, .f32⟩
  | .hbm, ⟨45, _⟩ => ⟨S2x128x2x64, .f32⟩
  | .hbm, ⟨46, _⟩ => ⟨S2x128x2x64, .f32⟩
  | .hbm, ⟨47, _⟩ => ⟨S256x128, .f32⟩
  | .hbm, ⟨48, _⟩ => ⟨S2x2, .i32⟩
  | .hbm, ⟨49, _⟩ => ⟨S2x2, .i32⟩
  | .hbm, ⟨50, _⟩ => ⟨S_, .i32⟩
  | .hbm, ⟨51, _⟩ => ⟨S2x2, .i32⟩
  | .hbm, ⟨52, _⟩ => ⟨S2x2, .i32⟩
  | .hbm, ⟨53, _⟩ => ⟨S2x2, .i1⟩
  | .hbm, ⟨54, _⟩ => ⟨S2x2, .f32⟩
  | .hbm, ⟨55, _⟩ => ⟨S2x1x2x1, .f32⟩
  | .hbm, ⟨56, _⟩ => ⟨S2x128x1x64, .f32⟩
  | .hbm, ⟨57, _⟩ => ⟨S2x128x2x64, .f32⟩
  | .hbm, ⟨58, _⟩ => ⟨S2x128x2x64, .f32⟩
  | .hbm, ⟨59, _⟩ => ⟨S2x128x2x64, .f32⟩
  | .hbm, ⟨60, _⟩ => ⟨S256x128, .f32⟩
  | .hbm, ⟨61, _⟩ => ⟨S2x2, .i32⟩
  | .hbm, ⟨62, _⟩ => ⟨S2x2, .i32⟩
  | .hbm, ⟨63, _⟩ => ⟨S_, .i32⟩
  | .hbm, ⟨64, _⟩ => ⟨S2x2, .i32⟩
  | .hbm, ⟨65, _⟩ => ⟨S2x2, .i32⟩
  | .hbm, ⟨66, _⟩ => ⟨S2x2, .i1⟩
  | .hbm, ⟨67, _⟩ => ⟨S2x2, .f32⟩
  | .hbm, ⟨68, _⟩ => ⟨S2x1x2x1, .f32⟩
  | .hbm, ⟨69, _⟩ => ⟨S2x128x1x64, .f32⟩
  | .hbm, ⟨70, _⟩ => ⟨S2x128x2x64, .f32⟩
  | .hbm, ⟨71, _⟩ => ⟨S2x128x2x64, .f32⟩
  | .hbm, ⟨72, _⟩ => ⟨S2x128x2x64, .f32⟩
  | .hbm, ⟨73, _⟩ => ⟨S256x128, .f32⟩
  | .hbm, ⟨74, _⟩ => ⟨S1x256x128, .f32⟩
  | .hbm, ⟨75, _⟩ => ⟨S1x256x128, .f32⟩
  | .hbm, ⟨76, _⟩ => ⟨S1x256x128, .f32⟩
  | .hbm, ⟨77, _⟩ => ⟨S1x256x128, .f32⟩
  | .hbm, ⟨78, _⟩ => ⟨S4x256x128, .f32⟩
  | .hbm, ⟨79, _⟩ => ⟨S4x256x128, .bf16⟩
  | .hbm, ⟨80, _⟩ => ⟨S512x1024, .f32⟩
  | .hbm, ⟨81, _⟩ => ⟨S512x1024, .bf16⟩
  | .hbm, ⟨82, _⟩ => ⟨S512x1024, .f32⟩
  | .hbm, ⟨83, _⟩ => ⟨S512x1024, .bf16⟩
  | .hbm, ⟨84, _⟩ => ⟨S1x1024, .f32⟩
  | .hbm, ⟨85, _⟩ => ⟨S1x1024, .f32⟩
  | .hbm, ⟨86, _⟩ => ⟨S1024x2816, .bf16⟩
  | .hbm, ⟨87, _⟩ => ⟨S1024x2816, .bf16⟩
  | .hbm, ⟨88, _⟩ => ⟨S2816x1024, .bf16⟩
  | .hbm, ⟨89, _⟩ => ⟨S1x1024, .f32⟩
  | .hbm, ⟨90, _⟩ => ⟨S1x1024, .f32⟩
  | .hbm, ⟨91, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S4x256x128, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S32768x512 : Shape := ⟨2, ![32768, 512]⟩
abbrev S128x8x64 : Shape := ⟨3, ![128, 8, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x8x128 : Shape := ⟨3, ![32768, 8, 128]⟩
abbrev S8x64x32768 : Shape := ⟨3, ![8, 64, 32768]⟩
abbrev S32768x8x64 : Shape := ⟨3, ![32768, 8, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 102
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S128x8x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S32768x1024, .f32⟩
  | .hbm, ⟨13, _⟩ => ⟨S32768x8x128, .f32⟩
  | .hbm, ⟨14, _⟩ => ⟨S8x64x32768, .f32⟩
  | .hbm, ⟨15, _⟩ => ⟨S32768x8x64, .f32⟩
  | .hbm, ⟨16, _⟩ => ⟨S32768x512, .f32⟩
  | .hbm, ⟨17, _⟩ => ⟨S32768x512, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S_, .f32⟩
  | .hbm, ⟨60, _⟩ => ⟨S32768x2816, .f32⟩
  | .hbm, ⟨61, _⟩ => ⟨S32768x2816, .f32⟩
  | .hbm, ⟨62, _⟩ => ⟨S_, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S32768x2816, .f32⟩
  | .hbm, ⟨67, _⟩ => ⟨S32768x2816, .f32⟩
  | .hbm, ⟨68, _⟩ => ⟨S32768x1024, .f32⟩
  | .hbm, ⟨69, _⟩ => ⟨S_, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768x1, .f32⟩
  | .hbm, ⟨92, _⟩ => ⟨S32768x1, .f32⟩
  | .hbm, ⟨93, _⟩ => ⟨S32768x1, .f32⟩
  | .hbm, ⟨94, _⟩ => ⟨S32768x1024, .f32⟩
  | .hbm, ⟨95, _⟩ => ⟨S32768x1024, .f32⟩
  | .hbm, ⟨96, _⟩ => ⟨S1x1024, .f32⟩
  | .hbm, ⟨97, _⟩ => ⟨S32768x1024, .f32⟩
  | .hbm, ⟨98, _⟩ => ⟨S32768x1024, .f32⟩
  | .hbm, ⟨99, _⟩ => ⟨S1x1024, .f32⟩
  | .hbm, ⟨100, _⟩ => ⟨S32768x1024, .f32⟩
  | .hbm, ⟨101, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== Kernel3.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.OnlineSoftmax.lean ====
/- One row of an online softmax on the extended reals: what the running maximum and the running weighted sums of a
   causal attention row hold after a number of keys, and that dividing at the end gives the row's attention. -/
module

public import Idealize.ShloMosaic.PureOps.Ideal.Laws
public import Mathlib.Tactic.Ring
public import Mathlib.Tactic.FieldSimp
public import Mathlib.Tactic.NormNum

@[expose] public section

noncomputable section

namespace Cert.OnlineSoftmax

open Idealize.ShloMosaic

/-- The weight of key `k` for a query at position `p`: `2 ^ s k` up to the query's own position, zero after it. -/
def weight (s : ℕ → ℝ) (p k : ℕ) : ℝ := if k ≤ p then Real.rpow 2 (s k) else 0

/-- The masked score of key `k`: the score up to the query's own position, `⊥` after it. -/
def masked (s : ℕ → ℝ) (p k : ℕ) : EReal := if k ≤ p then ((s k : ℝ) : EReal) else ⊥

/-- The attention of a row over `n` keys: the weighted mean of the values. -/
def attn (s : ℕ → ℝ) (v : ℕ → ℝ) (p n : ℕ) : ℝ :=
  (∑ k ∈ Finset.range n, weight s p k * v k) / ∑ k ∈ Finset.range n, weight s p k

/-- Every element is a real. -/
def AllReal {ι : Type} (f : ι → EReal) : Prop := ∀ x, ((f x).toReal : EReal) = f x

/-- A row's attention depends on the scores and values of its `n` keys only. -/
theorem attn_congr (s s' v v' : ℕ → ℝ) (p n : ℕ) (hs : ∀ k, k < n → s k = s' k) (hv : ∀ k, k < n → v k = v' k) :
    attn s v p n = attn s' v' p n := by
  have hw : ∀ k ∈ Finset.range n, weight s p k = weight s' p k := fun k hk => by
    rw [weight, weight, hs k (Finset.mem_range.mp hk)]
  rw [attn, attn, Finset.sum_congr rfl hw, Finset.sum_congr rfl fun k hk => by rw [hw k hk, hv k (Finset.mem_range.mp hk)]]

/-- A finite sum of reals read on the extended reals. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The state of a row after the first `n` keys: before any key the maximum is `⊥` and the sums are zero, afterwards
    the maximum is some real and each sum is the weighted sum of its lane's values, scaled down by two to that real. -/
def RowInv {L : Type} (s : ℕ → ℝ) (v : ℕ → L → ℝ) (p n : ℕ) (m : EReal) (a : L → EReal) : Prop :=
  (n = 0 ∧ m = ⊥ ∧ ∀ l, a l = 0)
    ∨ ∃ μ : ℝ, m = (μ : EReal) ∧ ∀ l, a l = ((∑ k ∈ Finset.range n, weight s p k * Real.rpow 2 (-μ) * v k l : ℝ) : EReal)

theorem rpow_pos (x : ℝ) : 0 < Real.rpow 2 x := Real.rpow_pos_of_pos (by norm_num) x

theorem rpow_add (x y : ℝ) : Real.rpow 2 (x + y) = Real.rpow 2 x * Real.rpow 2 y := Real.rpow_add (by norm_num) x y

/-- Two to a masked score less a real is the key's weight scaled down. -/
theorem exp2_masked_sub (s : ℕ → ℝ) (p k : ℕ) (μ : ℝ) :
    Ideal.exp2 (masked s p k - (μ : EReal)) = ((weight s p k * Real.rpow 2 (-μ) : ℝ) : EReal) := by
  unfold masked weight
  split_ifs
  · rw [← EReal.coe_sub, Ideal.exp2_coe, sub_eq_add_neg, rpow_add]
  · rw [EReal.bot_sub, Ideal.exp2_bot]; simp

/-- A maximum of scores over a finite family is never `⊤` when none of them is. -/
theorem fold_max_ne_top {ι : Type} (t : Finset ι) (σ : ι → EReal) (h : ∀ i, σ i ≠ ⊤) : t.fold max ⊥ σ ≠ ⊤ := by
  classical
  induction t using Finset.induction_on with
  | empty => simp
  | insert a t ha ih =>
    rw [Finset.fold_insert ha]
    rcases max_choice (σ a) (t.fold max ⊥ σ) with e | e <;> rw [e]
    · exact h a
    · exact ih

/-- Every member of a family is at most the family's maximum. -/
theorem le_fold_max {ι : Type} (t : Finset ι) (σ : ι → EReal) (i : ι) (hi : i ∈ t) : σ i ≤ t.fold max ⊥ σ := by
  rw [Finset.le_fold_max]; exact .inr ⟨i, hi, le_rfl⟩

/-- The maximum of a row of masked scores reaching an unmasked key, joined to an earlier maximum, is a real. -/
theorem max_real {N : ℕ} (s : ℕ → ℝ) (p n : ℕ) (hn : n ≤ p) (hN : 0 < N) (m : EReal) (hm : m ≠ ⊤) :
    ∃ μ : ℝ, max m ((Finset.univ : Finset (Fin N)).fold max ⊥ fun j => masked s p (n + j.val)) = (μ : EReal) := by
  have hne : ∀ j : Fin N, masked s p (n + j.val) ≠ ⊤ := fun j => by
    unfold masked; split_ifs <;> simp
  have h0 := le_fold_max (Finset.univ : Finset (Fin N)) (fun j => masked s p (n + j.val)) ⟨0, hN⟩ (Finset.mem_univ _)
  have hb : (Finset.univ : Finset (Fin N)).fold max ⊥ (fun j => masked s p (n + j.val)) ≠ ⊥ := by
    intro e
    rw [e] at h0
    simp only [masked, Nat.add_zero, if_pos hn] at h0
    exact absurd (le_bot_iff.1 h0) (EReal.coe_ne_bot _)
  have ht := fold_max_ne_top (Finset.univ : Finset (Fin N)) _ hne
  refine ⟨(max m _ : EReal).toReal, (EReal.coe_toReal ?_ ?_).symm⟩
  · rcases max_choice m ((Finset.univ : Finset (Fin N)).fold max ⊥ fun j => masked s p (n + j.val)) with e | e <;> rw [e]
    · exact hm
    · exact ht
  · exact fun e => hb (le_bot_iff.1 (le_trans (le_max_right m _) e.le))

/-- One block of keys: the state of a row after `n` keys, rescaled to the new maximum and with the block's weighted
    values added, is the state after `n + N` keys. -/
theorem RowInv.step {L : Type} {N : ℕ} {s : ℕ → ℝ} {v : ℕ → L → ℝ} {p n : ℕ} {m : EReal} {a : L → EReal}
    (h : RowInv s v p n m a) (hn : n ≤ p) (hN : 0 < N) (m' : EReal)
    (hm' : m' = max m ((Finset.univ : Finset (Fin N)).fold max ⊥ fun j => masked s p (n + j.val)))
    (a' : L → EReal)
    (ha' : ∀ l, a' l = a l * Ideal.exp2 (m - m')
      + (0 + ∑ j : Fin N, Ideal.exp2 (masked s p (n + j.val) - m') * ((v (n + j.val) l : ℝ) : EReal))) :
    RowInv s v p (n + N) m' a' := by
  have hmt : m ≠ ⊤ := by
    rcases h with ⟨-, e, -⟩ | ⟨μ, e, -⟩ <;> rw [e] <;> simp
  obtain ⟨μ', hμ'⟩ := max_real s p n hn hN m hmt
  rw [← hm'] at hμ'
  refine .inr ⟨μ', hμ', fun l => ?_⟩
  have hsum : (∑ j : Fin N, Ideal.exp2 (masked s p (n + j.val) - m') * ((v (n + j.val) l : ℝ) : EReal))
      = ((∑ j ∈ Finset.range N, weight s p (n + j) * Real.rpow 2 (-μ') * v (n + j) l : ℝ) : EReal) := by
    rw [Finset.sum_range, coe_sum]
    refine Finset.sum_congr rfl fun j _ => ?_
    rw [hμ', exp2_masked_sub, ← EReal.coe_mul]
  have hold : a l * Ideal.exp2 (m - m')
      = ((∑ k ∈ Finset.range n, weight s p k * Real.rpow 2 (-μ') * v k l : ℝ) : EReal) := by
    rcases h with ⟨e, -, e2⟩ | ⟨μ, e, e2⟩
    · rw [e2 l, e, zero_mul]; simp
    · rw [e2 l, e, hμ', ← EReal.coe_sub, Ideal.exp2_coe, ← EReal.coe_mul, Finset.sum_mul]
      congr 1
      refine Finset.sum_congr rfl fun k _ => ?_
      have : Real.rpow 2 (-μ') = Real.rpow 2 (-μ) * Real.rpow 2 (μ - μ') := by
        rw [← rpow_add]; congr 1; ring
      rw [this]; ring
  rw [ha' l, hold, hsum, zero_add, ← EReal.coe_add, Finset.sum_range_add]

/-- The start of a row: no key seen. -/
theorem RowInv.zero {L : Type} (s : ℕ → ℝ) (v : ℕ → L → ℝ) (p : ℕ) : RowInv s v p 0 ⊥ (fun _ => 0) :=
  .inl ⟨rfl, rfl, fun _ => rfl⟩

/-- Keys after the query's position weigh nothing. -/
theorem sum_weight_eq (s : ℕ → ℝ) (w : ℕ → ℝ) (p n n' : ℕ) (h : p < n) (h' : n ≤ n') :
    ∑ k ∈ Finset.range n, weight s p k * w k = ∑ k ∈ Finset.range n', weight s p k * w k := by
  refine Finset.sum_subset (Finset.range_mono h') fun k _ hk => ?_
  have : ¬ k ≤ p := by have := Finset.mem_range.not.1 hk; omega
  rw [weight, if_neg this, zero_mul]

/-- The weights' sum is positive: the first key always counts. -/
theorem sum_weight_pos (s : ℕ → ℝ) (p n : ℕ) (h : 0 < n) : 0 < ∑ k ∈ Finset.range n, weight s p k := by
  refine Finset.sum_pos' (fun k _ => ?_) ⟨0, Finset.mem_range.2 h, ?_⟩
  · unfold weight; split_ifs
    · exact (rpow_pos _).le
    · exact le_rfl
  · rw [weight, if_pos (Nat.zero_le _)]; exact rpow_pos _

/-- Dividing a lane's sum by the sum of a lane of ones gives the attention over all the keys. -/
theorem RowInv.div {L : Type} {s : ℕ → ℝ} {v : ℕ → L → ℝ} {p n : ℕ} {m : EReal} {a : L → EReal}
    (h : RowInv s v p n m a) (hn : p < n) (n' : ℕ) (hn' : n ≤ n') (l o : L) (ho : ∀ k, v k o = 1) :
    Ideal.div (a l) (a o) = ((attn s (fun k => v k l) p n' : ℝ) : EReal) := by
  rcases h with ⟨e, -, -⟩ | ⟨μ, -, e2⟩
  · omega
  have hp := rpow_pos (-μ)
  have e : ∀ l, (∑ k ∈ Finset.range n, weight s p k * Real.rpow 2 (-μ) * v k l)
      = Real.rpow 2 (-μ) * ∑ k ∈ Finset.range n', weight s p k * v k l := fun l => by
    rw [← sum_weight_eq s (fun k => v k l) p n n' hn hn', Finset.mul_sum]
    exact Finset.sum_congr rfl fun k _ => by ring
  have hD := sum_weight_pos s p n' (by omega)
  have e1 : (∑ k ∈ Finset.range n', weight s p k * v k o) = ∑ k ∈ Finset.range n', weight s p k :=
    Finset.sum_congr rfl fun k _ => by rw [ho, mul_one]
  rw [e2 l, e2 o, e l, e o, e1]
  have hne : ((Real.rpow 2 (-μ) * ∑ k ∈ Finset.range n', weight s p k : ℝ) : EReal) ≠ 0 := by
    rw [Ne, EReal.coe_eq_zero]; exact (mul_pos hp hD).ne'
  rw [Ideal.div, if_neg hne, ← EReal.coe_inv, ← EReal.coe_mul]
  congr 1
  unfold attn
  field_simp

/-- The exponential of a masked natural score less a real is the key's weight scaled. -/
theorem exp_masked_sub (s : ℕ → ℝ) (p k : ℕ) (μ : ℝ) :
    Ideal.exp (masked (fun k => s k * Real.log 2) p k - (μ : EReal)) = ((weight s p k * Real.exp (-μ) : ℝ) : EReal) := by
  unfold masked weight
  split_ifs
  · rw [← EReal.coe_sub, Ideal.exp_coe, sub_eq_add_neg, Real.exp_add]
    have e : Real.exp (s k * Real.log 2) = (2 : ℝ) ^ s k := by rw [Real.rpow_def_of_pos (by norm_num), mul_comm]
    exact congrArg (fun t : ℝ => ((t * Real.exp (-μ) : ℝ) : EReal)) e
  · rw [EReal.bot_sub, Ideal.exp_bot]; simp

/-- The weighted mean by a plain softmax: values times the exponentials (less any real) divided by their sum. -/
theorem softmax_attn (s v : ℕ → ℝ) (p n : ℕ) (hn : 0 < n) (μ : ℝ) (e : Fin n → EReal)
    (he : ∀ k : Fin n, e k = Ideal.exp (masked (fun k => s k * Real.log 2) p k.val - (μ : EReal))) :
    (∑ k : Fin n, ((v k.val : ℝ) : EReal) * Ideal.div (e k) (0 + ∑ j : Fin n, e j)) = ((attn s v p n : ℝ) : EReal) := by
  have he' : ∀ k : Fin n, e k = ((weight s p k.val * Real.exp (-μ) : ℝ) : EReal) := fun k => by rw [he, exp_masked_sub]
  have hD : (0 + ∑ j : Fin n, e j) = (((∑ k ∈ Finset.range n, weight s p k) * Real.exp (-μ) : ℝ) : EReal) := by
    rw [zero_add, Finset.sum_mul, Finset.sum_range, coe_sum]
    exact Finset.sum_congr rfl fun k _ => he' k
  have hp := sum_weight_pos s p n hn
  have hx := Real.exp_pos (-μ)
  have hne : (((∑ k ∈ Finset.range n, weight s p k) * Real.exp (-μ) : ℝ) : EReal) ≠ 0 := by
    rw [Ne, EReal.coe_eq_zero]; exact (mul_pos hp hx).ne'
  have hk : ∀ k : Fin n, ((v k.val : ℝ) : EReal) * Ideal.div (e k) (0 + ∑ j : Fin n, e j)
      = ((weight s p k.val * v k.val / ∑ k ∈ Finset.range n, weight s p k : ℝ) : EReal) := fun k => by
    rw [hD, he', Ideal.div, if_neg hne, ← EReal.coe_inv, ← EReal.coe_mul, ← EReal.coe_mul]
    congr 1
    field_simp
  rw [Finset.sum_congr rfl fun k _ => hk k, ← coe_sum, attn, Finset.sum_div]
  exact congrArg _ (Finset.sum_range (fun k => weight s p k * v k / ∑ k ∈ Finset.range n, weight s p k)).symm

end Cert.OnlineSoftmax

end
-- ==== Proof.Result.lean ====
/- The causal attention of the layer's prompt, as a function of its two arguments, on reals. -/
module

public import proofs.«01_k».proof.Proof.OnlineSoftmax
public import Idealize.ShloMosaic.Lib.Pointwise.Index

@[expose] public section

noncomputable section

namespace Cert.Att

open Idealize.ShloMosaic Cert.OnlineSoftmax

/-- The score of sequence `b`'s query at position `p`, head `h`, against the key at position `k`: queries are stored
    512 positions at a time. -/
def rowScore (a0 : (⟨4, ![64, 8, 512, 256]⟩ : Shape).Idx → EReal) (a1 : (⟨2, ![32768, 256]⟩ : Shape).Idx → EReal) (b h p k : ℕ) : ℝ :=
  ∑ d : Fin 256, (a0 (ix4 (Fin.ofNat 64 (16 * b + p / 512)) (Fin.ofNat 8 h) (Fin.ofNat 512 (p % 512)) d)).toReal
    * (a1 (ix2 (Fin.ofNat 32768 (8192 * b + k)) d)).toReal

/-- Lane `l` of sequence `b`'s cached row at position `k`. -/
def rowVal (a1 : (⟨2, ![32768, 256]⟩ : Shape).Idx → EReal) (b l k : ℕ) : ℝ :=
  (a1 (ix2 (Fin.ofNat 32768 (8192 * b + k)) (Fin.ofNat 256 l))).toReal

/-- The attention's result at sequence `b`, position `p` and column `x` (128 columns a head). -/
def result (a0 : (⟨4, ![64, 8, 512, 256]⟩ : Shape).Idx → EReal) (a1 : (⟨2, ![32768, 256]⟩ : Shape).Idx → EReal) (b p x : ℕ) : EReal :=
  ((attn (rowScore a0 a1 b (x / 128) p) (rowVal a1 b (x % 128)) p 8192 : ℝ) : EReal)

end Cert.Att

end
-- ==== Proof.RefValue.lean ====
/- The attention's plain reference read at an index: a softmax of the masked scores, row by row. -/
module

public import proofs.«01_k».proof.Proof.Gen.ReferenceIdeal.Read
public import proofs.«01_k».proof.Proof.Result
public import Idealize.ShloMosaic.Lib.WordCmp

@[expose] public section

noncomputable section

namespace Cert.ReferenceIdeal.Att

open Idealize.ShloMosaic Cert.ReferenceIdeal Cert.ReferenceIdeal.Gen Cert.ReferenceIdeal.Read Cert.OnlineSoftmax Cert.Att

variable (x0 : (⟨S64x8x512x256, .bf16⟩ : BufTy).Contents (Elt Ideal)) (x1 : (⟨S32768x256, .bf16⟩ : BufTy).Contents (Elt Ideal))

/-- The queries by position: the reference's transposed array at a position is the stored block's row. -/
theorem query_apply (b : Fin 4) (h : Fin 8) (p : Fin 8192) (d : Fin 256) :
    val_main_v3 (F := Ideal) x0 (ix4 b h p d)
      = x0 (ix4 (Fin.ofNat 64 (16 * b.val + p.val / 512)) (Fin.ofNat 8 h.val) (Fin.ofNat 512 (p.val % 512)) d) := by
  have hb := b.isLt; have hh := h.isLt; have hp := p.isLt; have hd := d.isLt
  have e3 : idx_main_v3 (ix4 b h p d) = ix5 b h (⟨p.val / 512, by omega⟩ : Fin 16) (⟨p.val % 512, by omega⟩ : Fin 512) d := by
    funext a
    apply Fin.ext
    match a with
    | ⟨0, _⟩ => show (((b.val * 8 + h.val) * 8192 + p.val) * 256 + d.val) / 16777216 = b.val; omega
    | ⟨1, _⟩ => show (((b.val * 8 + h.val) * 8192 + p.val) * 256 + d.val) / 2097152 % 8 = h.val; omega
    | ⟨2, _⟩ => show (((b.val * 8 + h.val) * 8192 + p.val) * 256 + d.val) / 131072 % 16 = p.val / 512; omega
    | ⟨3, _⟩ => show (((b.val * 8 + h.val) * 8192 + p.val) * 256 + d.val) / 256 % 512 = p.val % 512; omega
    | ⟨4, _⟩ => show (((b.val * 8 + h.val) * 8192 + p.val) * 256 + d.val) % 256 = d.val; omega
  have e1 : idx_main_v1 (idx_main_v2 (ix5 b h (⟨p.val / 512, by omega⟩ : Fin 16) (⟨p.val % 512, by omega⟩ : Fin 512) d))
      = ix4 (Fin.ofNat 64 (16 * b.val + p.val / 512)) (Fin.ofNat 8 h.val) (Fin.ofNat 512 (p.val % 512)) d := by
    funext a
    apply Fin.ext
    match a with
    | ⟨0, _⟩ => show ((((b.val * 16 + p.val / 512) * 8 + h.val) * 512 + p.val % 512) * 256 + d.val) / 1048576 = (16 * b.val + p.val / 512) % 64; omega
    | ⟨1, _⟩ => show ((((b.val * 16 + p.val / 512) * 8 + h.val) * 512 + p.val % 512) * 256 + d.val) / 131072 % 8 = h.val % 8; omega
    | ⟨2, _⟩ => show ((((b.val * 16 + p.val / 512) * 8 + h.val) * 512 + p.val % 512) * 256 + d.val) / 256 % 512 = p.val % 512 % 512; omega
    | ⟨3, _⟩ => show ((((b.val * 16 + p.val / 512) * 8 + h.val) * 512 + p.val % 512) * 256 + d.val) % 256 = d.val; omega
  rw [val_main_v3_apply, val_main_v2_apply, val_main_v1_apply, val_main_v0_apply, e3, e1]
  rfl

/-- The cached rows by sequence and position. -/
theorem key_apply (b : Fin 4) (k : Fin 8192) (d : Fin 256) :
    val_main_v5 (F := Ideal) x1 (ix3 b k d) = x1 (ix2 (Fin.ofNat 32768 (8192 * b.val + k.val)) d) := by
  have hb := b.isLt; have hk := k.isLt; have hd := d.isLt
  have e : idx_main_v5 (ix3 b k d) = ix2 (Fin.ofNat 32768 (8192 * b.val + k.val)) d := by
    funext a
    apply Fin.ext
    match a with
    | ⟨0, _⟩ => show ((b.val * 8192 + k.val) * 256 + d.val) / 256 = (8192 * b.val + k.val) % 32768; omega
    | ⟨1, _⟩ => show ((b.val * 8192 + k.val) * 256 + d.val) % 256 = d.val; omega
  rw [val_main_v5_apply, val_main_v4_apply, e]
  rfl

section
variable (h0 : AllReal x0) (h1 : AllReal x1)
include h0 h1

/-- A score before scaling. -/
theorem score_real (b : Fin 4) (h : Fin 8) (p k : Fin 8192) :
    val_main_v6 (F := Ideal) x0 x1 (ix4 b h p k) = ((rowScore x0 x1 b.val h.val p.val k.val : ℝ) : EReal) := by
  rw [val_main_v6_apply, rowScore, coe_sum]
  refine Finset.sum_congr rfl fun d _ => ?_
  have e0 : lidx_main_v6 (ix4 b h p k) d = ix4 b h p d := by
    funext a; match a with | ⟨0, _⟩ => rfl | ⟨1, _⟩ => rfl | ⟨2, _⟩ => rfl | ⟨3, _⟩ => rfl
  have e1 : ridx_main_v6 (ix4 b h p k) d = ix3 b k d := by
    funext a; match a with | ⟨0, _⟩ => rfl | ⟨1, _⟩ => rfl | ⟨2, _⟩ => rfl
  rw [e0, e1, query_apply, key_apply, EReal.coe_mul, h0, h1]

omit h0 h1 in
/-- The scale is the real `log 2`. -/
theorem scale_apply (i : S4x8x8192x8192.Idx) : val_main_v8 (F := Ideal) i = ((Real.log 2 : ℝ) : EReal) := by
  rw [val_main_v8_apply, val_main_v7_apply, val_main_cst_apply]
  have e : (FloatOps.ofBits (F := Ideal) FTy.f32 0x40000000#32 : EReal) = ((2 : ℝ) : EReal) := by
    simp [FloatOps.ofBits, Ideal.ofBits, Ideal.ieee]
    rw [← EReal.coe_mul]
    norm_num
  rw [Ideal.hostUnary_log_def, e, Ideal.log_coe, if_neg (by norm_num)]

/-- A masked score: `⊥` after the query's own position. -/
theorem masked_apply (b : Fin 4) (h : Fin 8) (p k : Fin 8192) :
    val_main_v17 (F := Ideal) x0 x1 (ix4 b h p k)
      = masked (fun k => rowScore x0 x1 b.val h.val p.val k * Real.log 2) p.val k.val := by
  have hp := p.isLt; have hk := k.isLt
  have hb : (FloatOps.ofBits (F := Ideal) FTy.f32 0xFF800000#32 : EReal) = ⊥ := by
    simp [FloatOps.ofBits, Ideal.ofBits, Ideal.ieee]
  rw [val_main_v17_apply, val_main_call0_v1_apply, val_main_v16_apply, val_main_v15_apply, val_main_v13_apply, val_main_v14_apply,
    val_main_v11_apply, val_main_v12_apply, val_main_v10_apply, val_main_v10_apply, val_main_call0_v2_apply, val_main_call0_v0_apply,
    val_main_cst_0_apply, val_main_v9_apply, scale_apply, score_real x0 x1 h0 h1, hb]
  show Scalar.select (IntOp.cmpi .sge (BitVec.ofNat 32 p.val) (BitVec.ofNat 32 k.val)) _ _ = _
  rw [WordCmp.cmpi_sge_ofNat (by omega) (by omega), Scalar.select, masked]
  by_cases hkp : k.val ≤ p.val
  · simp [hkp]
  · simp [hkp]

/-- A row's maximum is a real. -/
theorem max_apply (b : Fin 4) (h : Fin 8) (p : Fin 8192) :
    ∃ μ : ℝ, val_main_v20 (F := Ideal) x0 x1 (ix3 b h p) = (μ : EReal) := by
  obtain ⟨μ, hμ⟩ := max_real (N := 8192) (fun k => rowScore x0 x1 b.val h.val p.val k * Real.log 2) p.val 0 (Nat.zero_le _) (by norm_num) ⊥ (by simp)
  refine ⟨μ, Eq.trans ?_ hμ⟩
  have hb : (FloatOps.ofBits (F := Ideal) FTy.f32 0xFF800000#32 : EReal) = ⊥ := by
    simp [FloatOps.ofBits, Ideal.ofBits, Ideal.ieee]
  rw [val_main_v20_apply, val_main_v19_apply, val_main_cst_2_apply, hb]
  refine congrArg (max ⊥) ?_
  unfold val_main_v18
  refine (Host.reduce_eq_fold_single (s := S4x8x8192x8192) (t := S4x8x8192) (a := 3) (α := EReal) max (val_main_v17 (F := Ideal) x0 x1) _ reducesTo_S4x8x8192x8192_S4x8x8192_d3
    (by decide) h_S_ (ix3 b h p)).trans ?_
  rw [val_main_cst_1_apply, hb]
  refine congrArg (fun f => (Finset.univ : Finset (Fin 8192)).fold max ⊥ f) (funext fun k => ?_)
  refine Eq.trans (congrArg (val_main_v17 (F := Ideal) x0 x1) ?_) ((masked_apply x0 x1 h0 h1 b h p k).trans (by rw [Nat.zero_add]))
  funext a; match a with | ⟨0, _⟩ => rfl | ⟨1, _⟩ => rfl | ⟨2, _⟩ => rfl | ⟨3, _⟩ => rfl

/-- The reference's result at an index is the row's attention. -/
theorem value (i : S4x8192x1024.Idx) :
    val_main_v33 (F := Ideal) x0 x1 i = result x0 x1 (i 0).val (i 1).val (i 2).val := by
  have hi0 : (i 0).val < 4 := (i 0).isLt; have hi1 : (i 1).val < 8192 := (i 1).isLt; have hi2 : (i 2).val < 1024 := (i 2).isLt
  obtain ⟨b, hb⟩ : ∃ b : Fin 4, b.val = (i 0).val := ⟨⟨_, hi0⟩, rfl⟩
  obtain ⟨p, hp⟩ : ∃ p : Fin 8192, p.val = (i 1).val := ⟨⟨_, hi1⟩, rfl⟩
  obtain ⟨h, hh⟩ : ∃ h : Fin 8, h.val = (i 2).val / 128 := ⟨⟨(i 2).val / 128, by omega⟩, rfl⟩
  obtain ⟨l, hl⟩ : ∃ l : Fin 128, l.val = (i 2).val % 128 := ⟨⟨(i 2).val % 128, by omega⟩, rfl⟩
  obtain ⟨μ, hμ⟩ := max_apply x0 x1 h0 h1 b h p
  have hz : (FloatOps.ofBits (F := Ideal) FTy.f32 0x00000000#32 : EReal) = 0 := by
    simp [FloatOps.ofBits, Ideal.ofBits, Ideal.ieee]
  have e32 : idx_main_v31 (idx_main_v32 i) = ix4 b l h p := by
    funext a
    apply Fin.ext
    match a with
    | ⟨0, _⟩ => show (((i 0).val * 8192 + (i 1).val) * 1024 + (i 2).val) / 8388608 = b.val; omega
    | ⟨1, _⟩ => show (((i 0).val * 8192 + (i 1).val) * 1024 + (i 2).val) % 128 = l.val; omega
    | ⟨2, _⟩ => show (((i 0).val * 8192 + (i 1).val) * 1024 + (i 2).val) / 128 % 8 = h.val; omega
    | ⟨3, _⟩ => show (((i 0).val * 8192 + (i 1).val) * 1024 + (i 2).val) / 1024 % 8192 = p.val; omega
  have he : ∀ k : Fin 8192, val_main_v24 (F := Ideal) x0 x1 (ix4 b h p k)
      = Ideal.exp (masked (fun k => rowScore x0 x1 b.val h.val p.val k * Real.log 2) p.val k.val - (μ : EReal)) := fun k => by
    rw [val_main_v24_apply, val_main_v23_apply, val_main_v22_apply, val_main_v21_apply, masked_apply x0 x1 h0 h1]
    have e : idx_main_v21 (idx_main_v22 (ix4 b h p k)) = ix3 b h p := by
      funext a; match a with | ⟨0, _⟩ => rfl | ⟨1, _⟩ => rfl | ⟨2, _⟩ => rfl
    rw [e, hμ]
    rfl
  have hd : ∀ k : Fin 8192, val_main_v27 (F := Ideal) x0 x1 (ix4 b h p k) = 0 + ∑ j : Fin 8192, val_main_v24 (F := Ideal) x0 x1 (ix4 b h p j) := fun k => by
    rw [val_main_v27_apply, val_main_v26_apply, val_main_v25_apply, val_main_cst_3_apply, hz]
    refine congrArg (0 + ·) (Finset.sum_congr rfl fun j _ => congrArg _ ?_)
    funext a; match a with | ⟨0, _⟩ => rfl | ⟨1, _⟩ => rfl | ⟨2, _⟩ => rfl | ⟨3, _⟩ => rfl
  rw [val_main_v33_apply, val_main_v32_apply, val_main_v31_apply, e32, val_main_v30_apply, result, ← hb, ← hp, ← hh, ← hl]
  refine Eq.trans (Finset.sum_congr rfl fun k _ => ?_) (softmax_attn (rowScore x0 x1 b.val h.val p.val) (rowVal x1 b.val l.val) p.val 8192 (by norm_num) μ _ he)
  have e1 : ridx_main_v30 (ix4 b l h p) k = ix4 b h p k := by
    funext a; match a with | ⟨0, _⟩ => rfl | ⟨1, _⟩ => rfl | ⟨2, _⟩ => rfl | ⟨3, _⟩ => rfl
  have e2 : idx_main_v29 (lidx_main_v30 (ix4 b l h p) k) = ix3 b k ⟨l.val, by omega⟩ := by
    funext a; match a with | ⟨0, _⟩ => rfl | ⟨1, _⟩ => rfl | ⟨2, _⟩ => rfl
  have hv : val_main_v29 (F := Ideal) x1 (lidx_main_v30 (ix4 b l h p) k) = ((rowVal x1 b.val l.val k.val : ℝ) : EReal) := by
    have e : (⟨l.val, by omega⟩ : Fin 256) = Fin.ofNat 256 l.val := Fin.ext (by have := l.isLt; show l.val = l.val % 256; omega)
    rw [val_main_v29_apply, e2, key_apply, rowVal, h1, e]
  have hq : val_main_v28 (F := Ideal) x0 x1 (ix4 b h p k)
      = Ideal.div (val_main_v24 (F := Ideal) x0 x1 (ix4 b h p k)) (0 + ∑ j : Fin 8192, val_main_v24 (F := Ideal) x0 x1 (ix4 b h p j)) := by
    rw [← hd k, val_main_v28_apply]
    rfl
  rw [e1, hv, hq]

end

end Cert.ReferenceIdeal.Att

end
-- ==== Proof.Offsets.lean ====
/- Where the attention kernel's loops run and where they load: trip counts and load offsets as plain numbers of the grid
   point. -/
module

public import proofs.«01_k».proof.Proof.Gen.KernelIdeal.Value

@[expose] public section

noncomputable section

namespace Cert.KernelIdeal.Att

open Idealize.ShloMosaic Cert.KernelIdeal Cert.KernelIdeal.Gen

/-- The main loop runs over the query block's index less one key blocks. -/
theorem trips1 : ∀ i : grid0.Coords, (k0_t1_loop i).trips = (i 1).val - 1 := by decide +kernel

/-- The remainder loop has no trip. -/
theorem trips2 : ∀ i : grid0.Coords, (k0_t2_loop i).trips = 0 := by decide +kernel

theorem iv_lt14 : ∀ n : Fin 14, (Scf.iv (0#32) (1#32) n.val).toNat = n.val
    ∧ ((Scalar.muli (Scalar.addi (Scf.iv (0#32) (1#32) n.val) 1#32) 512#32)).toNat = 512 * (n.val + 1)
    ∧ ((Scalar.muli (Scf.iv (0#32) (1#32) n.val) 512#32)).toNat = 512 * n.val := by decide +kernel

/-- A trip loads the keys of the block after its own. -/
theorem off1_eq (i : grid0.Coords) (k : Fin (k0_t1_loop i).trips) : k0_off1 i k = ![0, 512 * (k.val + 1), 0] := by
  have h := (iv_lt14 ⟨k.val, lt_of_lt_of_le k.isLt (Gen.k0_t1_abs i).2.1⟩).2.1
  show ![0, _, 0] = _
  rw [← h]; rfl

/-- A trip loads the values of its own block. -/
theorem off2_eq (i : grid0.Coords) (k : Fin (k0_t1_loop i).trips) : k0_off2 i k = ![0, 512 * k.val, 0] := by
  have h := (iv_lt14 ⟨k.val, lt_of_lt_of_le k.isLt (Gen.k0_t1_abs i).2.1⟩).2.2
  show ![0, _, 0] = _
  rw [← h]; rfl

/-- The last step before the diagonal loads the values of the block before the diagonal one. -/
theorem off6_eq : ∀ i : grid0.Coords, 1 ≤ (i 1).val → k0_off6 i = ![0, 512 * ((i 1).val - 1), 0] := by decide +kernel

end Cert.KernelIdeal.Att

end
-- ==== Proof.Trips.lean ====
/- The attention kernel's main loop by values: what the three scratch buffers (running maximum, accumulator, next scores)
   hold after a number of trips, as plain vectors, with no buffer left in the statement. -/
module

public import proofs.«01_k».proof.Proof.Offsets
public import Idealize.ShloMosaic.Lib.VecWindow
public import Idealize.ShloMosaic.Lib.Pointwise.Index

@[expose] public section

noncomputable section

namespace Cert.KernelIdeal.Att

open Idealize.ShloMosaic Idealize.ShloMosaic.Tactic Cert.KernelIdeal Cert.KernelIdeal.Gen

variable {F : FTy → Type} [FloatOps F] [Named F]

/-- Key block `n` of a sequence's keys. -/
def keys (kv : Vec F S1x8192x256 .bf16) (n : ℕ) : Vec F S1x512x256 .bf16 :=
  fun y => kv (ix3 0 (Fin.ofNat 8192 (512 * n + (y 1).val)) (y 2))

/-- The values of key block `n`: its first 128 lanes. -/
def vals (kv : Vec F S1x8192x256 .bf16) (n : ℕ) : Vec F S1x512x128 .bf16 :=
  fun y => kv (ix3 0 (Fin.ofNat 8192 (512 * n + (y 1).val)) (Fin.castLE (by decide) (y 2)))

/-- A load of a whole key block reads that block. -/
theorem read_keys (arg4 : Memref sig .tc .vmem S1x8192x256 .bf16) (X : BufTy.Contents (Elt F) arg4.view.ty) (n : ℕ) (hn : n < 16)
    (off : Fin 3 → ℕ) (inb : ∀ a, off a + S1x512x256.size a ≤ S1x8192x256.size a) (h : off = ![0, 512 * n, 0]) :
    View.readAt (Elt F) arg4.view (Rect.unit (s := S1x8192x256) off S1x512x256.size inb).toLoadRect X
      = keys (arg4.view.read (Elt F) X) n := by
  subst h
  funext y
  have hy : (y 1).val < 512 := (y 1).isLt
  show arg4.view.read (Elt F) X _ = arg4.view.read (Elt F) X _
  congr 1
  funext a
  refine Fin.ext ?_
  have h0 : (y 0).val < 1 := (y 0).isLt
  match a with
  | ⟨0, _⟩ => show 0 + 1 * (y 0).val = 0; omega
  | ⟨1, _⟩ => show 512 * n + 1 * (y 1).val = (512 * n + (y 1).val) % 8192; omega
  | ⟨2, _⟩ => show 0 + 1 * (y 2).val = (y 2).val; omega

/-- A load of a key block's first lanes reads that block's values. -/
theorem read_vals (arg4 : Memref sig .tc .vmem S1x8192x256 .bf16) (X : BufTy.Contents (Elt F) arg4.view.ty) (n : ℕ) (hn : n < 16)
    (off : Fin 3 → ℕ) (inb : ∀ a, off a + S1x512x128.size a ≤ S1x8192x256.size a) (h : off = ![0, 512 * n, 0]) :
    View.readAt (Elt F) arg4.view (Rect.unit (s := S1x8192x256) off S1x512x128.size inb).toLoadRect X
      = vals (arg4.view.read (Elt F) X) n := by
  subst h
  funext y
  have hy : (y 1).val < 512 := (y 1).isLt
  show arg4.view.read (Elt F) X _ = arg4.view.read (Elt F) X _
  congr 1
  funext a
  refine Fin.ext ?_
  have h0 : (y 0).val < 1 := (y 0).isLt
  match a with
  | ⟨0, _⟩ => show 0 + 1 * (y 0).val = 0; omega
  | ⟨1, _⟩ => show 512 * n + 1 * (y 1).val = (512 * n + (y 1).val) % 8192; omega
  | ⟨2, _⟩ => show 0 + 1 * (y 2).val = (y 2).val; omega

/-- What the three scratch buffers hold: the running maximum, the accumulator, the next block's scores. -/
abbrev St (F : FTy → Type) : Type := Vec F S4096x128 .f32 × Vec F S4096x256 .f32 × Vec F S4096x512 .f32

/-- One trip by values: block `k`'s scores are folded into the maximum and the accumulator, and the scores of block
    `k + 1` take their place. -/
def stepSt (q : Vec F S1x4096x256 .bf16) (kv : Vec F S1x8192x256 .bf16) (k : ℕ) (x : St F) : St F :=
  (k0_pay5 x.2.2 x.1, k0_pay4 k0_pay17 x.2.2 x.1 (vals kv k) x.2.1, k0_pay19 (k0_pay2 (k0_pay14 q) (keys kv (k + 1))))

/-- The scratch buffers after `n` trips from `x`. -/
def loopSt (q : Vec F S1x4096x256 .bf16) (kv : Vec F S1x8192x256 .bf16) (x : St F) : ℕ → St F
  | 0 => x
  | n + 1 => stepSt q kv n (loopSt q kv x n)

section
variable (𝒱 : Variants) (c : Dev nD) (bd : Option 𝒱.V) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x8192x256 .bf16) (harg4 : arg4.IsWhole) (arg5 : Memref sig .tc .vmem S1x512x1024 .bf16) (harg5 : arg5.IsWhole) (arg6 : Memref sig .tc .vmem S4096x128 .f32) (harg6 : arg6.IsWhole) (arg7 : Memref sig .tc .vmem S4096x256 .f32) (harg7 : arg7.IsWhole) (arg8 : Memref sig .tc .vmem S4096x512 .f32) (harg8 : arg8.IsWhole) (v0 : Vec F S1x4096x256 .bf16) (X : BufTy.Contents (Elt F) arg4.view.ty)

/-- The three buffers' contents read as vectors. -/
def readSt (f6 : BufTy.Contents (Elt F) arg6.view.ty) (f7 : BufTy.Contents (Elt F) arg7.view.ty) (f8 : BufTy.Contents (Elt F) arg8.view.ty) : St F :=
  (arg6.view.read (Elt F) f6, arg7.view.read (Elt F) f7, arg8.view.read (Elt F) f8)

/-- A trip's stores, read back, are the step of what the trip found. -/
theorem trip_read (k : Fin (k0_t1_loop i).trips) (f6 : BufTy.Contents (Elt F) arg6.view.ty) (f7 : BufTy.Contents (Elt F) arg7.view.ty) (f8 : BufTy.Contents (Elt F) arg8.view.ty)
    (g6 : BufTy.Contents (Elt F) arg6.view.ty) (g7 : BufTy.Contents (Elt F) arg7.view.ty) (g8 : BufTy.Contents (Elt F) arg8.view.ty)
    (L6 : List (View.Piece (Elt F) S4096x128 .f32)) (L7 : List (View.Piece (Elt F) S4096x256 .f32)) (L8 : List (View.Piece (Elt F) S4096x512 .f32)) :
    readSt arg6 arg7 arg8
      (arg6.view.writes (Elt F) g6 ((tripL_k0_t1 (F := F) 𝒱 c bd i arg2 harg2 arg3 harg3 arg4 harg4 arg5 harg5 arg6 harg6 arg7 harg7 arg8 harg8 v0 X k f6 f7 f8).1 ++ L6))
      (arg7.view.writes (Elt F) g7 ((tripL_k0_t1 (F := F) 𝒱 c bd i arg2 harg2 arg3 harg3 arg4 harg4 arg5 harg5 arg6 harg6 arg7 harg7 arg8 harg8 v0 X k f6 f7 f8).2.1 ++ L7))
      (arg8.view.writes (Elt F) g8 ((tripL_k0_t1 (F := F) 𝒱 c bd i arg2 harg2 arg3 harg3 arg4 harg4 arg5 harg5 arg6 harg6 arg7 harg7 arg8 harg8 v0 X k f6 f7 f8).2.2 ++ L8))
    = stepSt v0 (arg4.view.read (Elt F) X) k.val (readSt arg6 arg7 arg8 f6 f7 f8) := by
  have hk : k.val + 1 < 16 := by have h1 := k.isLt; have h2 := trips1 i; have : (i 1).val < 16 := (i 1).isLt; omega
  unfold tripL_k0_t1 trip_k0_t1
  dsimp only
  sl_unfold_words
  simp only [readSt, stepSt, List.cons_append, List.nil_append]
  have e1 := read_keys arg4 X (k.val + 1) hk (k0_off1 i k) (k0_off1_inb i k) (off1_eq i k)
  have e2 := read_vals arg4 X k.val (by omega) (k0_off2 i k) (k0_off2_inb i k) (off2_eq i k)
  refine Prod.ext ?_ (Prod.ext ?_ ?_)
  · refine (View.read_writes_full ..).trans ?_
    rw [View.readAt_full, View.readAt_full]
    rfl
  · refine (View.read_writes_full ..).trans ?_
    rw [View.readAt_full, View.readAt_full, View.readAt_full]
    exact congrArg (fun w => k0_pay4 k0_pay17 (arg8.view.read (Elt F) f8) (arg6.view.read (Elt F) f6) w (arg7.view.read (Elt F) f7)) e2
  · refine (View.read_writes_full ..).trans ?_
    exact congrArg (fun w => k0_pay19 (k0_pay2 (k0_pay14 v0) w)) e1

/-- The loop's stores up to trip `n`, read back over what the buffers held at its start. -/
theorem loop_read (G6 : BufTy.Contents (Elt F) arg6.view.ty) (G7 : BufTy.Contents (Elt F) arg7.view.ty) (G8 : BufTy.Contents (Elt F) arg8.view.ty) (n : ℕ) (hn : n ≤ (k0_t1_loop i).trips) :
    readSt arg6 arg7 arg8
      (arg6.view.writes (Elt F) G6 (pb_k0_t1 (F := F) 𝒱 c bd i arg2 harg2 arg3 harg3 arg4 harg4 arg5 harg5 arg6 harg6 arg7 harg7 arg8 harg8 v0 X G6 G7 G8 n).1)
      (arg7.view.writes (Elt F) G7 (pb_k0_t1 (F := F) 𝒱 c bd i arg2 harg2 arg3 harg3 arg4 harg4 arg5 harg5 arg6 harg6 arg7 harg7 arg8 harg8 v0 X G6 G7 G8 n).2.1)
      (arg8.view.writes (Elt F) G8 (pb_k0_t1 (F := F) 𝒱 c bd i arg2 harg2 arg3 harg3 arg4 harg4 arg5 harg5 arg6 harg6 arg7 harg7 arg8 harg8 v0 X G6 G7 G8 n).2.2)
    = loopSt v0 (arg4.view.read (Elt F) X) (readSt arg6 arg7 arg8 G6 G7 G8) n := by
  induction n with
  | zero => rfl
  | succ n ih =>
    rw [pb_k0_t1_succ 𝒱 c bd i arg2 harg2 arg3 harg3 arg4 harg4 arg5 harg5 arg6 harg6 arg7 harg7 arg8 harg8 v0 X G6 G7 G8 ⟨n, hn⟩]
    dsimp only
    rw [trip_read]
    show stepSt _ _ _ _ = stepSt _ _ _ _
    rw [ih (by omega)]

end

end Cert.KernelIdeal.Att

end
-- ==== Proof.Cases.lean ====
/- What one grid point of the attention kernel leaves, by values: the accumulator its output tiles are cut from, and the
   scores it carries to the next point. -/
module

public import proofs.«01_k».proof.Proof.Trips

@[expose] public section

noncomputable section

namespace Cert.KernelIdeal.Att

open Idealize.ShloMosaic Idealize.ShloMosaic.Tactic Cert.KernelIdeal Cert.KernelIdeal.Gen

variable {F : FTy → Type} [FloatOps F] [Named F]

/-- The state a point starts its loops from: the mask as maximum, a zero accumulator, the first block's scores `s`. -/
def initSt (s : Vec F S4096x512 .f32) : St F := (k0_pay15, k0_pay16, s)

/-- The step on the block before the diagonal: as a trip, but leaving the masked scores of the diagonal block. -/
def diagSt (q : Vec F S1x4096x256 .bf16) (kv : Vec F S1x8192x256 .bf16) (b : ℕ) (x : St F) : St F :=
  (k0_pay22 (k0_pay11 x.2.2 x.1), k0_pay21 (k0_pay12 x.2.2 x.1) (k0_pay13 x.2.2 x.1) (vals kv (b - 1)) x.2.1, k0_pay23 (k0_pay10 (k0_pay14 q) (keys kv b)))

/-- The accumulator after the diagonal block `b`. -/
def lastAcc (kv : Vec F S1x8192x256 .bf16) (b : ℕ) (x : St F) : Vec F S4096x256 .f32 :=
  k0_pay26 k0_pay17 x.2.2 x.1 (vals kv b) x.2.1

/-- The accumulator of a point with query block `b ≥ 1`, the first block's scores `s` carried in. -/
def accB (q : Vec F S1x4096x256 .bf16) (kv : Vec F S1x8192x256 .bf16) (s : Vec F S4096x512 .f32) (b : ℕ) : Vec F S4096x256 .f32 :=
  lastAcc kv b (diagSt q kv b (loopSt q kv (initSt s) (b - 1)))

/-- The accumulator of a sequence's first point. -/
def accA (q : Vec F S1x4096x256 .bf16) (kv : Vec F S1x8192x256 .bf16) : Vec F S4096x256 .f32 :=
  lastAcc kv 0 (initSt (k0_pay18 q (keys kv 0)))

/-- A head's tile of a point's output, cut from the divided accumulator's rows. -/
def tileOut (a : Vec F S4096x256 .f32) : Vec F S1x512x1024 .bf16 :=
  fun y => k0_pay29 a (ix2 (Fin.ofNat 4096 (512 * ((y 2).val / 128) + (y 1).val)) (Fin.ofNat 128 ((y 2).val % 128)))

/-- Head `h`'s stored tile is the output's columns `128 h` to `128 h + 127`. -/
theorem tile_piece (a : Vec F S4096x256 .f32) (h : ℕ) (hh : h < 8) (sl : S4096x128.Slices ![512 * h, 0] S512x128) (hc : S512x128.ShapeCasts S1x512x128)
    (inb : ∀ b, (![0, 0, 128 * h] : Fin 3 → ℕ) b + (![1, 512, 128] : Fin 3 → ℕ) b ≤ S1x512x1024.size b)
    (y : (Rect.unit (s := S1x512x1024) ![0, 0, 128 * h] ![1, 512, 128] inb).shape.Idx) :
    (shapeCast S1x512x128 (extractStridedSlice S512x128 ![512 * h, 0] (k0_pay29 a) sl) hc : Vec F S1x512x128 .bf16) y
      = tileOut a ((Rect.unit (s := S1x512x1024) ![0, 0, 128 * h] ![1, 512, 128] inb).emb y) := by
  have h1 : (y 1).val < 512 := (y 1).isLt
  have h2 : (y 2).val < 128 := (y 2).isLt
  have e1 : (((Rect.unit (s := S1x512x1024) ![0, 0, 128 * h] ![1, 512, 128] inb).emb y) 1).val = 0 + 1 * (y 1).val := rfl
  have e2 : (((Rect.unit (s := S1x512x1024) ![0, 0, 128 * h] ![1, 512, 128] inb).emb y) 2).val = 128 * h + 1 * (y 2).val := rfl
  refine (shapeCast_addUnit_apply ![512, 128] _ hc y).trans ?_
  refine (extractStridedSlice_apply _ _ sl _ (ix2 (Fin.ofNat 4096 (512 * ((128 * h + 1 * (y 2).val) / 128) + (0 + 1 * (y 1).val))) (Fin.ofNat 128 ((128 * h + 1 * (y 2).val) % 128))) ?_).trans ?_
  · intro b
    match b with
    | ⟨0, _⟩ => show (512 * ((128 * h + 1 * (y 2).val) / 128) + (0 + 1 * (y 1).val)) % 4096 = 512 * h + (y 1).val; omega
    | ⟨1, _⟩ => show ((128 * h + 1 * (y 2).val) % 128) % 128 = 0 + (y 2).val; omega
  · unfold tileOut
    rw [e1, e2]

section
variable (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x8192x256 .bf16) (harg4 : arg4.IsWhole) (arg5 : Memref sig .tc .vmem S1x512x1024 .bf16) (harg5 : arg5.IsWhole) (arg6 : Memref sig .tc .vmem S4096x128 .f32) (harg6 : arg6.IsWhole) (arg7 : Memref sig .tc .vmem S4096x256 .f32) (harg7 : arg7.IsWhole) (arg8 : Memref sig .tc .vmem S4096x512 .f32) (harg8 : arg8.IsWhole)
  (x0 : Vec F S1x4096x256 .bf16) (x1 : Vec F S1x4096x256 .bf16) (x2 : Vec F S1x8192x256 .bf16)

set_option maxRecDepth 8192 in
/-- A point after a sequence's first leaves the next query block's scores against the first keys. -/
theorem sout_B (hc0 : ¬cond0_0 i) (hc1 : cond0_1 i) (xs2 : Vec F S4096x512 .f32) : sout0_B_2 c i arg2 harg2 arg3 harg3 arg4 harg4 arg5 harg5 arg6 harg6 arg7 harg7 arg8 harg8 hc0 hc1 x0 x1 x2 xs2
    = k0_pay28 (k0_pay24 x1) (keys x2 0) := by
  unfold sout0_B_2 kernelRun0_B
  dsimp only
  refine (View.read_writes_full ..).trans ?_
  unfold kernelRun0_B.sl.r_4
  rw [View.readAt_full, harg3.read_unread]
  rw [read_keys arg4 (harg4.unread x2) 0 (by omega) _ _ rfl, harg4.read_unread]

set_option maxRecDepth 8192 in
theorem v128_B (xs2 : Vec F S4096x512 .f32) : kernelRun0_B.sl.v128 c i arg2 harg2 arg3 harg3 arg4 harg4 arg5 harg5 arg6 harg6 arg7 harg7 arg8 harg8 x0 x2 xs2
    = (loopSt x0 x2 (initSt xs2) ((i 1).val - 1)).1 := by
  have h1 := trips1 i
  have h2 := trips2 i
  simp only [k0_t1_loop, k0_t2_loop, Scf.Loop.trips] at h1 h2
  have hl := loop_read (F := F) Variants.none c none i arg2 harg2 arg3 harg3 arg4 harg4 arg5 harg5 arg6 harg6 arg7 harg7 arg8 harg8 x0 (harg4.unread x2)
    (arg6.view.writes (Elt F) arg6.view.junk kernelRun0_B.sl.HS0_1) (arg7.view.writes (Elt F) arg7.view.junk kernelRun0_B.sl.HS1_1) (harg8.unread xs2) ((i 1).val - 1) (le_of_eq (trips1 i).symm)
  unfold kernelRun0_B.sl.v128
  simp only [View.readCov, View.writes_append]
  sl_unfold_words
  simp only [h1, h2, pb_k0_t2, View.writes_nil]
  rw [View.readAt_full arg2.view, harg2.read_unread, View.readAt_full arg6.view]
  simp only [readSt, harg4.read_unread, harg8.read_unread] at hl
  refine (congrArg (fun x => x.1) hl).trans ?_
  rw [initSt]
  unfold kernelRun0_B.sl.HS0_1 kernelRun0_B.sl.HS1_1
  rw [View.read_writes_full, View.read_writes_full]

set_option maxRecDepth 8192 in
theorem v145_B (xs2 : Vec F S4096x512 .f32) : kernelRun0_B.sl.v145 c i arg2 harg2 arg3 harg3 arg4 harg4 arg5 harg5 arg6 harg6 arg7 harg7 arg8 harg8 x0 x2 xs2
    = (loopSt x0 x2 (initSt xs2) ((i 1).val - 1)).2.1 := by
  have h1 := trips1 i
  have h2 := trips2 i
  simp only [k0_t1_loop, k0_t2_loop, Scf.Loop.trips] at h1 h2
  have hl := loop_read (F := F) Variants.none c none i arg2 harg2 arg3 harg3 arg4 harg4 arg5 harg5 arg6 harg6 arg7 harg7 arg8 harg8 x0 (harg4.unread x2)
    (arg6.view.writes (Elt F) arg6.view.junk kernelRun0_B.sl.HS0_1) (arg7.view.writes (Elt F) arg7.view.junk kernelRun0_B.sl.HS1_1) (harg8.unread xs2) ((i 1).val - 1) (le_of_eq (trips1 i).symm)
  unfold kernelRun0_B.sl.v145
  simp only [View.readCov, View.writes_append]
  sl_unfold_words
  simp only [h1, h2, pb_k0_t2, View.writes_nil]
  rw [View.readAt_full arg2.view, harg2.read_unread, View.readAt_full arg7.view]
  simp only [readSt, harg4.read_unread, harg8.read_unread] at hl
  refine (congrArg (fun x => x.2.1) hl).trans ?_
  rw [initSt]
  unfold kernelRun0_B.sl.HS0_1 kernelRun0_B.sl.HS1_1
  rw [View.read_writes_full, View.read_writes_full]

set_option maxRecDepth 8192 in
theorem v100_B (xs2 : Vec F S4096x512 .f32) : kernelRun0_B.sl.v100 c i arg2 harg2 arg3 harg3 arg4 harg4 arg5 harg5 arg6 harg6 arg7 harg7 arg8 harg8 x0 x2 xs2
    = (loopSt x0 x2 (initSt xs2) ((i 1).val - 1)).2.2 := by
  have h1 := trips1 i
  have h2 := trips2 i
  simp only [k0_t1_loop, k0_t2_loop, Scf.Loop.trips] at h1 h2
  have hl := loop_read (F := F) Variants.none c none i arg2 harg2 arg3 harg3 arg4 harg4 arg5 harg5 arg6 harg6 arg7 harg7 arg8 harg8 x0 (harg4.unread x2)
    (arg6.view.writes (Elt F) arg6.view.junk kernelRun0_B.sl.HS0_1) (arg7.view.writes (Elt F) arg7.view.junk kernelRun0_B.sl.HS1_1) (harg8.unread xs2) ((i 1).val - 1) (le_of_eq (trips1 i).symm)
  unfold kernelRun0_B.sl.v100
  simp only [View.readCov, View.writes_append]
  sl_unfold_words
  simp only [h1, h2, pb_k0_t2, View.writes_nil]
  rw [View.readAt_full arg2.view, harg2.read_unread, View.readAt_full arg8.view]
  simp only [readSt, harg4.read_unread, harg8.read_unread] at hl
  refine (congrArg (fun x => x.2.2) hl).trans ?_
  rw [initSt]
  unfold kernelRun0_B.sl.HS0_1 kernelRun0_B.sl.HS1_1
  rw [View.read_writes_full, View.read_writes_full]

set_option maxRecDepth 8192 in
/-- A point after a sequence's first leaves the tiles of its accumulator. -/
theorem out_B (hc0 : ¬cond0_0 i) (hc1 : cond0_1 i) (xs2 : Vec F S4096x512 .f32) : out0_B_3 c i arg2 harg2 arg3 harg3 arg4 harg4 arg5 harg5 arg6 harg6 arg7 harg7 arg8 harg8 hc0 hc1 x0 x1 x2 xs2
    = tileOut (accB x0 x2 xs2 (i 1).val) := by
  have hb : 1 ≤ (i 1).val := by
    have := (i 1).isLt
    revert hc1; revert i; decide +kernel
  have hb' : (i 1).val < 16 := (i 1).isLt
  have hA : kernelRun0_B.sl.v c i arg2 harg2 arg3 harg3 arg4 harg4 arg5 harg5 arg6 harg6 arg7 harg7 arg8 harg8 hc1 x0 x2 xs2 = accB x0 x2 xs2 (i 1).val := by
    unfold kernelRun0_B.sl.v kernelRun0_B.sl.HS1_2
    refine (View.readCov_full ..).trans ?_
    unfold kernelRun0_B.sl.v23 kernelRun0_B.sl.v31 kernelRun0_B.sl.v48
    unfold kernelRun0_B.sl.HS1_1_1 kernelRun0_B.sl.HS0_1_1 kernelRun0_B.sl.HS2_1
    rw [View.readCov_full, View.readCov_full, View.readCov_full]
    unfold kernelRun0_B.sl.r kernelRun0_B.sl.r_1 kernelRun0_B.sl.r_2 kernelRun0_B.sl.r_3
    rw [v100_B, v128_B, v145_B]
    rw [View.readAt_full arg2.view, harg2.read_unread]
    rw [read_keys arg4 (harg4.unread x2) (i 1).val hb' _ _ (Gen.k0_off5_eq i), read_vals arg4 (harg4.unread x2) (i 1).val hb' _ _ (Gen.k0_off7_eq i),
      read_vals arg4 (harg4.unread x2) ((i 1).val - 1) (by omega) _ _ (off6_eq i hb), harg4.read_unread]
    rfl
  funext y
  refine View.read_writes_apply_of_pieces _ _ (tileOut (accB x0 x2 xs2 (i 1).val)) _ ?_ y (cover0_B_3 c i arg2 harg2 arg3 harg3 arg4 harg4 arg5 harg5 arg6 harg6 arg7 harg7 arg8 harg8 hc0 hc1 x0 x1 x2 xs2 y)
  unfold kernelRun0_B
  dsimp only
  unfold kernelRun0_B.sl.r_5
  rw [hA]
  intro p hp x
  simp only [List.mem_cons, List.not_mem_nil, or_false] at hp
  rcases hp with rfl | rfl | rfl | rfl | rfl | rfl | rfl | rfl
  · exact tile_piece _ 7 (by decide) slices_S4096x128_o3584_0_S512x128 shapeCasts_S512x128_S1x512x128 inb_S1x512x1024_S1x512x128_0_0_896 x
  · exact tile_piece _ 6 (by decide) slices_S4096x128_o3072_0_S512x128 shapeCasts_S512x128_S1x512x128 inb_S1x512x1024_S1x512x128_0_0_768 x
  · exact tile_piece _ 5 (by decide) slices_S4096x128_o2560_0_S512x128 shapeCasts_S512x128_S1x512x128 inb_S1x512x1024_S1x512x128_0_0_640 x
  · exact tile_piece _ 4 (by decide) slices_S4096x128_o2048_0_S512x128 shapeCasts_S512x128_S1x512x128 inb_S1x512x1024_S1x512x128_0_0_512 x
  · exact tile_piece _ 3 (by decide) slices_S4096x128_o1536_0_S512x128 shapeCasts_S512x128_S1x512x128 inb_S1x512x1024_S1x512x128_0_0_384 x
  · exact tile_piece _ 2 (by decide) slices_S4096x128_o1024_0_S512x128 shapeCasts_S512x128_S1x512x128 inb_S1x512x1024_S1x512x128_0_0_256 x
  · exact tile_piece _ 1 (by decide) slices_S4096x128_o512_0_S512x128 shapeCasts_S512x128_S1x512x128 inb_S1x512x1024_S1x512x128_0_0_128 x
  · exact tile_piece _ 0 (by decide) slices_S4096x128_o0_0_S512x128 shapeCasts_S512x128_S1x512x128 inb_S1x512x1024_S1x512x128_0_0_0 x

set_option maxRecDepth 8192 in
/-- A sequence's first point leaves the next query block's scores against the first keys. -/
theorem sout_A (hc0 : cond0_0 i) (hc1 : ¬cond0_1 i) : sout0_A_2 c i arg2 harg2 arg3 harg3 arg4 harg4 arg5 harg5 arg6 harg6 arg7 harg7 arg8 harg8 hc0 hc1 x0 x1 x2
    = k0_pay28 (k0_pay24 x1) (keys x2 0) := by
  unfold sout0_A_2 kernelRun0_A
  dsimp only
  refine (View.read_writes_full ..).trans ?_
  unfold kernelRun0_A.sl.r
  rw [View.readAt_full, harg3.read_unread]
  rw [read_keys arg4 (harg4.unread x2) 0 (by omega) _ _ rfl, harg4.read_unread]

set_option maxRecDepth 8192 in
/-- A sequence's first point leaves the tiles of its accumulator. -/
theorem out_A (hc0 : cond0_0 i) (hc1 : ¬cond0_1 i) : out0_A_3 c i arg2 harg2 arg3 harg3 arg4 harg4 arg5 harg5 arg6 harg6 arg7 harg7 arg8 harg8 hc0 hc1 x0 x1 x2
    = tileOut (accA x0 x2) := by
  have hb : (i 1).val = 0 := by
    revert hc0; revert i; decide +kernel
  have hA : kernelRun0_A.sl.v c i arg2 harg2 arg3 harg3 arg4 harg4 arg5 harg5 arg6 harg6 arg7 harg7 arg8 harg8 x0 x2 = accA x0 x2 := by
    have h1 := trips1 i
    have h2 := trips2 i
    rw [hb, Nat.zero_sub] at h1
    simp only [k0_t1_loop, k0_t2_loop, Scf.Loop.trips] at h1 h2
    unfold kernelRun0_A.sl.v
    unfold kernelRun0_A.sl.HS1_1_1
    refine (View.readCov_full ..).trans ?_
    unfold kernelRun0_A.sl.v23 kernelRun0_A.sl.v31 kernelRun0_A.sl.v48
    simp only [View.readCov, View.writes_append]
    sl_unfold_words
    simp only [h1, h2, pb_k0_t2, pb_k0_t1, View.writes_nil]
    rw [View.readAt_full arg8.view, View.read_writes_full, View.readAt_full arg6.view, View.read_writes_full, View.readAt_full arg7.view, View.read_writes_full,
      View.readAt_full arg2.view, harg2.read_unread, read_keys arg4 (harg4.unread x2) 0 (by omega) _ _ rfl, harg4.read_unread]
    refine (congrArg (fun w => k0_pay26 k0_pay17 (k0_pay18 x0 (keys x2 0)) k0_pay15 w k0_pay16)
      (read_vals arg4 (harg4.unread x2) 0 (by omega) (k0_off7 i) (k0_off7_inb i) ((Gen.k0_off7_eq i).trans (by rw [hb])))).trans ?_
    rw [harg4.read_unread]
    rfl
  funext y
  refine View.read_writes_apply_of_pieces _ _ (tileOut (accA x0 x2)) _ ?_ y (cover0_A_3 c i arg2 harg2 arg3 harg3 arg4 harg4 arg5 harg5 arg6 harg6 arg7 harg7 arg8 harg8 hc0 hc1 x0 x1 x2 y)
  unfold kernelRun0_A
  dsimp only
  unfold kernelRun0_A.sl.r_1
  rw [hA]
  intro p hp x
  simp only [List.mem_cons, List.not_mem_nil, or_false] at hp
  rcases hp with rfl | rfl | rfl | rfl | rfl | rfl | rfl | rfl
  · exact tile_piece _ 7 (by decide) slices_S4096x128_o3584_0_S512x128 shapeCasts_S512x128_S1x512x128 inb_S1x512x1024_S1x512x128_0_0_896 x
  · exact tile_piece _ 6 (by decide) slices_S4096x128_o3072_0_S512x128 shapeCasts_S512x128_S1x512x128 inb_S1x512x1024_S1x512x128_0_0_768 x
  · exact tile_piece _ 5 (by decide) slices_S4096x128_o2560_0_S512x128 shapeCasts_S512x128_S1x512x128 inb_S1x512x1024_S1x512x128_0_0_640 x
  · exact tile_piece _ 4 (by decide) slices_S4096x128_o2048_0_S512x128 shapeCasts_S512x128_S1x512x128 inb_S1x512x1024_S1x512x128_0_0_512 x
  · exact tile_piece _ 3 (by decide) slices_S4096x128_o1536_0_S512x128 shapeCasts_S512x128_S1x512x128 inb_S1x512x1024_S1x512x128_0_0_384 x
  · exact tile_piece _ 2 (by decide) slices_S4096x128_o1024_0_S512x128 shapeCasts_S512x128_S1x512x128 inb_S1x512x1024_S1x512x128_0_0_256 x
  · exact tile_piece _ 1 (by decide) slices_S4096x128_o512_0_S512x128 shapeCasts_S512x128_S1x512x128 inb_S1x512x1024_S1x512x128_0_0_128 x
  · exact tile_piece _ 0 (by decide) slices_S4096x128_o0_0_S512x128 shapeCasts_S512x128_S1x512x128 inb_S1x512x1024_S1x512x128_0_0_0 x

end

end Cert.KernelIdeal.Att

end
-- ==== Proof.Steps.lean ====
/- The attention kernel's steps read at an index on the extended reals: scores, running maximum, accumulator, mask,
   division. -/
module

public import proofs.«01_k».proof.Proof.Cases
public import Idealize.ShloMosaic.Lib.Pointwise
public import Idealize.ShloMosaic.Lib.WordCmp

@[expose] public section

noncomputable section

namespace Cert.KernelIdeal.Att

open Idealize.ShloMosaic Idealize.ShloMosaic.Tactic Cert.KernelIdeal Cert.KernelIdeal.Gen

/-- The named mask is `⊥`. -/
theorem mask_val : (Named.named (F := Ideal) κ "mask" 0xF149F2CA#32 : Ideal .f32) = ⊥ :=
  IdealRules.named_const.ideal_named_scalar _ _ _ _ rfl

/-- A score: the product of a query row and a key row. -/
theorem score_apply (q : Vec Ideal S1x4096x256 .bf16) (kb : Vec Ideal S1x512x256 .bf16) (r : Fin 4096) (j : Fin 512) :
    k0_pay2 (k0_pay14 q) kb (ix2 r j) = ∑ d : Fin 256, q (ix3 0 r d) * kb (ix3 0 j d) := by
  pointwise [k0_pay2, k0_pay14, dot_S4096x256_S512x256_S4096x512_1_1_0_0_n_n]

/-- The new running maximum of a row. -/
theorem max_apply (S : Vec Ideal S4096x512 .f32) (M : Vec Ideal S4096x128 .f32) (r : Fin 4096) (l : Fin 128) :
    k0_pay3 S M (ix2 r l) = max (M (ix2 r l)) ((Finset.univ : Finset (Fin 512)).fold max ⊥ fun j => S (ix2 r j)) := by
  unfold k0_pay3
  have e := Ideal.multiReduction_maximumf_single (s := S4096x512) (t := S4096) (a := 1) S 0xFF800000#32 reduces_S4096x512_S4096 (.inl rfl) rfl (ix1 r)
  have hb : (FloatOps.ofBits (F := Ideal) FTy.f32 0xFF800000#32 : EReal) = ⊥ := by
    simp [FloatOps.ofBits, Ideal.ofBits, Ideal.ieee]
  rw [hb] at e
  refine congrArg (max (M (ix2 r l))) (Eq.trans ?_ (e.trans ?_))
  · generalize multiReduction (F := Ideal) (φ := .f32) FKind.maximumf [1] S4096 S 0xFF800000#32 reduces_S4096x512_S4096 (.inl rfl) rfl = z
    show broadcastTo S4096x128 (shapeCast S4096x1 z shapeCasts_S4096_S4096x1) broadcasts_S4096x1_S4096x128 (ix2 r l) = z (ix1 r)
    pointwise
  · refine congrArg (fun f => (Finset.univ : Finset (Fin 512)).fold max ⊥ f) (funext fun j => congrArg S ?_)
    funext a
    match a with
    | ⟨0, _⟩ => rfl
    | ⟨1, _⟩ => rfl

/-- The accumulator's step on a row whose maximum is the same in every lane: rescaled to the new maximum, plus the
    block's weighted values (a sum of weights on the lanes from 128 on). -/
theorem acc_apply (S : Vec Ideal S4096x512 .f32) (M : Vec Ideal S4096x128 .f32) (V : Vec Ideal S1x512x128 .bf16) (A : Vec Ideal S4096x256 .f32) (r : Fin 4096) (m m' : EReal)
    (hm : ∀ l, M (ix2 r l) = m) (hm' : m' = max m ((Finset.univ : Finset (Fin 512)).fold max ⊥ fun j => S (ix2 r j))) (l : Fin 256) :
    k0_pay4 k0_pay17 S M V A (ix2 r l) = A (ix2 r l) * Ideal.exp2 (m - m')
      + (0 + ∑ j : Fin 512, Ideal.exp2 (S (ix2 r j) - m') * (if h : l.val < 128 then V (ix3 0 j ⟨l.val, h⟩) else 1)) := by
  have hM' : ∀ l, k0_pay3 S M (ix2 r l) = m' := fun l => by rw [max_apply, hm, hm']
  pointwise [k0_pay4, k0_pay17, dot_S4096x512_S512x256_S4096x256_1_0_0_1_n_n, hM', hm]
  simp only [dite_eq_ite, ite_self]
  rfl

/-- The score of a row against a key of the diagonal block, `⊥` where the key lies after the row's position. -/
theorem mask_apply (q : Vec Ideal S1x4096x256 .bf16) (kb : Vec Ideal S1x512x256 .bf16) (r : Fin 4096) (j : Fin 512) :
    k0_pay18 q kb (ix2 r j) = if j.val ≤ r.val % 512 then ∑ d : Fin 256, q (ix3 0 r d) * kb (ix3 0 j d) else ⊥ := by
  have hr : ∀ r : Fin 4096, (Scalar.select
          (IntOp.andi
            (IntOp.xori
              (IntOp.cmpi CmpIPredicate.slt
                (IntOp.remsi ArithUnit.vector (BitVec.ofNat 32 r.val)
                  (Scalar.select (Scalar.cmpi CmpIPredicate.eq 512#32 0#32) 1#32 512#32))
                0#32)
              (Scalar.cmpi CmpIPredicate.slt (Scalar.select (Scalar.cmpi CmpIPredicate.eq 512#32 0#32) 1#32 512#32)
                0#32))
            (IntOp.cmpi CmpIPredicate.ne
              (IntOp.remsi ArithUnit.vector (BitVec.ofNat 32 r.val)
                (Scalar.select (Scalar.cmpi CmpIPredicate.eq 512#32 0#32) 1#32 512#32))
              0#32))
          (IntOp.addi
            (IntOp.remsi ArithUnit.vector (BitVec.ofNat 32 r.val)
              (Scalar.select (Scalar.cmpi CmpIPredicate.eq 512#32 0#32) 1#32 512#32))
            (Scalar.select (Scalar.cmpi CmpIPredicate.eq 512#32 0#32) 1#32 512#32))
          (IntOp.remsi ArithUnit.vector (BitVec.ofNat 32 r.val)
            (Scalar.select (Scalar.cmpi CmpIPredicate.eq 512#32 0#32) 1#32 512#32))) = BitVec.ofNat 32 (r.val % 512) := by
    decide +kernel
  pointwise [k0_pay18, k0_pay14, dot_S4096x256_S512x256_S4096x512_1_1_0_0_n_n]
  rw [hr r, mask_val, WordCmp.cmpi_sge_ofNat (by omega) (by omega), Scalar.select]
  by_cases h : j.val ≤ r.val % 512
  · simp [h]
  · simp [h]

/-- The division of a lane by its weight lane. -/
theorem div_apply (A : Vec Ideal S4096x256 .f32) (r : Fin 4096) (l : Fin 128) :
    k0_pay29 A (ix2 r l) = Ideal.div (A (ix2 r ⟨l.val, by omega⟩)) (A (ix2 r ⟨128 + l.val, by omega⟩)) := by
  pointwise [k0_pay29]

/-- The maximum starts at `⊥`. -/
theorem mask_splat (x : S4096x128.Idx) : k0_pay15 (F := Ideal) x = ⊥ := by
  pointwise [k0_pay15]
  exact mask_val

/-- The accumulator starts at zero. -/
theorem zero_splat (x : S4096x256.Idx) : k0_pay16 (F := Ideal) x = 0 := by
  pointwise [k0_pay16]

end Cert.KernelIdeal.Att

end
-- ==== Proof.Blocks.lean ====
/- A row of the attention kernel's accumulator through a query block's key blocks: the online softmax of the row. -/
module

public import proofs.«01_k».proof.Proof.Steps
public import proofs.«01_k».proof.Proof.OnlineSoftmax

@[expose] public section

noncomputable section

namespace Cert.KernelIdeal.Att

open Idealize.ShloMosaic Idealize.ShloMosaic.Tactic Cert.KernelIdeal Cert.KernelIdeal.Gen Cert.OnlineSoftmax

/-- The score of key `k` for row `r` of a query block, as a real. -/
def sc (q : Vec Ideal S1x4096x256 .bf16) (kv : Vec Ideal S1x8192x256 .bf16) (r : Fin 4096) (k : ℕ) : ℝ :=
  ∑ d : Fin 256, (q (ix3 0 r d) : EReal).toReal * (kv (ix3 0 (Fin.ofNat 8192 k) d) : EReal).toReal

/-- The value of key `k` on an accumulator lane, as a real: one on the lanes from 128 on. -/
def vl (kv : Vec Ideal S1x8192x256 .bf16) (k : ℕ) (l : Fin 256) : ℝ :=
  if l.val < 128 then (kv (ix3 0 (Fin.ofNat 8192 k) l) : EReal).toReal else 1

section
variable (q : Vec Ideal S1x4096x256 .bf16) (kv : Vec Ideal S1x8192x256 .bf16) (hq : AllReal q) (hkv : AllReal kv)
include hq hkv

/-- A dot product of a query row with key `k` is the real score. -/
theorem dot_real (r : Fin 4096) (n : ℕ) (j : Fin 512) :
    (∑ d : Fin 256, (q (ix3 0 r d) : EReal) * keys kv n (ix3 0 j d)) = ((sc q kv r (512 * n + j.val) : ℝ) : EReal) := by
  unfold sc
  rw [coe_sum]
  refine Finset.sum_congr rfl fun d _ => ?_
  rw [EReal.coe_mul, hq, hkv]
  rfl

omit hq in
/-- The lanes' values of block `n`. -/
theorem vals_real (n : ℕ) (j : Fin 512) (l : Fin 256) :
    (if h : l.val < 128 then (vals kv n (ix3 0 j ⟨l.val, h⟩) : EReal) else 1) = ((vl kv (512 * n + j.val) l : ℝ) : EReal) := by
  unfold vl
  split_ifs with h
  · rw [hkv]; rfl
  · rfl

/-- The state of row `r`, at position `p`, before key block `n`: its maximum is one value on all lanes, maximum and
    accumulator are the online softmax's after the first `n` blocks, and the scores are those of block `n`. -/
def RowSt (r : Fin 4096) (p n : ℕ) (x : St Ideal) : Prop :=
  ∃ m : EReal, (∀ l, x.1 (ix2 r l) = m) ∧ RowInv (sc q kv r) (vl kv) p (512 * n) m (fun l => x.2.1 (ix2 r l))
    ∧ ∀ j : Fin 512, x.2.2 (ix2 r j) = masked (sc q kv r) p (512 * n + j.val)

/-- Taking in a key block keeps a row the online softmax. -/
theorem RowSt.take {r : Fin 4096} {p n : ℕ} {x : St Ideal} (h : RowSt q kv r p n x) (hp : 512 * n ≤ p) :
    ∃ m : EReal, (∀ l, k0_pay3 x.2.2 x.1 (ix2 r l) = m)
      ∧ RowInv (sc q kv r) (vl kv) p (512 * (n + 1)) m (fun l => k0_pay4 k0_pay17 x.2.2 x.1 (vals kv n) x.2.1 (ix2 r l)) := by
  obtain ⟨m, h1, h2, h3⟩ := h
  refine ⟨max m ((Finset.univ : Finset (Fin 512)).fold max ⊥ fun j => x.2.2 (ix2 r j)), fun l => ?_, ?_⟩
  · rw [max_apply, h1]
  · refine h2.step (N := 512) hp (by norm_num) _ ?_ _ fun l => ?_
    · simp only [h3]
    · refine (acc_apply _ _ _ _ r m _ h1 rfl l).trans ?_
      simp only [h3, vals_real kv hkv]

/-- A trip on a block wholly before the row's position, the next one too. -/
theorem RowSt.trip {r : Fin 4096} {p n : ℕ} {x : St Ideal} (h : RowSt q kv r p n x) (hp : 512 * (n + 1) + 511 ≤ p) :
    RowSt q kv r p (n + 1) (stepSt q kv n x) := by
  obtain ⟨m, h1, h2⟩ := RowSt.take q kv hq hkv h (by omega)
  refine ⟨m, fun l => ?_, h2, fun j => ?_⟩
  · exact (congrFun (show k0_pay5 x.2.2 x.1 = k0_pay3 x.2.2 x.1 from shapeCast_self _ _) _).trans (h1 l)
  · have e : (stepSt q kv n x).2.2 = k0_pay2 (k0_pay14 q) (keys kv (n + 1)) :=
      show k0_pay19 (k0_pay2 (k0_pay14 q) (keys kv (n + 1))) = _ from by unfold k0_pay19; exact shapeCast_self _ _
    have hj := j.isLt
    rw [e, score_apply, dot_real q kv hq hkv, masked, if_pos (by omega)]

/-- The trips before the diagonal block `b`'s predecessor. -/
theorem RowSt.loop {r : Fin 4096} {p b : ℕ} {x : St Ideal} (h : RowSt q kv r p 0 x) (hp : 512 * b ≤ p) (n : ℕ) (hn : n + 1 ≤ b) :
    RowSt q kv r p n (loopSt q kv x n) := by
  induction n with
  | zero => exact h
  | succ n ih => exact RowSt.trip q kv hq hkv (ih (by omega)) (by omega)

/-- The state a point starts from, given a block of scores. -/
theorem RowSt.init {r : Fin 4096} {p : ℕ} (s : Vec Ideal S4096x512 .f32)
    (hs : ∀ j : Fin 512, s (ix2 r j) = masked (sc q kv r) p j.val) : RowSt q kv r p 0 (initSt s) := by
  refine ⟨⊥, fun l => mask_splat (ix2 r l), ?_, fun j => ?_⟩
  · rw [show (fun l : Fin 256 => (initSt s).2.1 (ix2 r l)) = fun _ => 0 from funext fun l => zero_splat (ix2 r l)]
    exact RowInv.zero _ _ _
  · rw [Nat.mul_zero, Nat.zero_add]; exact hs j

/-- A diagonal block's masked scores. -/
theorem diag_scores {r : Fin 4096} (b : ℕ) (j : Fin 512) :
    k0_pay18 q (keys kv b) (ix2 r j) = masked (sc q kv r) (512 * b + r.val % 512) (512 * b + j.val) := by
  rw [mask_apply, dot_real q kv hq hkv, masked]
  by_cases h : j.val ≤ r.val % 512
  · rw [if_pos h, if_pos (by omega)]
  · rw [if_neg h, if_neg (by omega)]

/-- A point after the first ends a row with the online softmax over the blocks up to the diagonal. -/
theorem accB_row {r : Fin 4096} {b : ℕ} (hb : 1 ≤ b) (s : Vec Ideal S4096x512 .f32)
    (hs : s = k0_pay2 (k0_pay14 q) (keys kv 0)) :
    ∃ m, RowInv (sc q kv r) (vl kv) (512 * b + r.val % 512) (512 * (b + 1)) m (fun l => accB q kv s b (ix2 r l)) := by
  have h0 : RowSt q kv r (512 * b + r.val % 512) 0 (initSt s) := RowSt.init q kv hq hkv s fun j => by
    have hj := j.isLt
    rw [hs, score_apply, dot_real q kv hq hkv, masked, if_pos (by omega)]
    rw [Nat.mul_zero, Nat.zero_add]
  have h1 := RowSt.loop q kv hq hkv h0 (b := b) (by omega) (b - 1) (by omega)
  obtain ⟨m, h2, h3⟩ := RowSt.take q kv hq hkv h1 (by omega)
  rw [show b - 1 + 1 = b by omega] at h3
  have h4 : RowSt q kv r (512 * b + r.val % 512) b (diagSt q kv b (loopSt q kv (initSt s) (b - 1))) :=
    ⟨m, fun l => (congrFun (show k0_pay22 (k0_pay11 _ _) = k0_pay3 _ _ from shapeCast_self _ _) _).trans (h2 l), h3,
      fun j => diag_scores q kv hq hkv b j⟩
  obtain ⟨m', -, h5⟩ := RowSt.take q kv hq hkv h4 (by omega)
  exact ⟨m', h5⟩

/-- A sequence's first point ends a row with the online softmax over the first block. -/
theorem accA_row {r : Fin 4096} :
    ∃ m, RowInv (sc q kv r) (vl kv) (r.val % 512) 512 m (fun l => accA q kv (ix2 r l)) := by
  have h0 : RowSt q kv r (r.val % 512) 0 (initSt (k0_pay18 q (keys kv 0))) := RowSt.init q kv hq hkv _ fun j => by
    rw [diag_scores q kv hq hkv 0 j]; simp only [Nat.mul_zero, Nat.zero_add]
  obtain ⟨m, -, h⟩ := RowSt.take q kv hq hkv h0 (by omega)
  exact ⟨m, h⟩

end

/-- An element of a point's output tile is its row's attention over the whole sequence. -/
theorem tile_attn (q : Vec Ideal S1x4096x256 .bf16) (kv : Vec Ideal S1x8192x256 .bf16) (b : ℕ) (hb : b < 16) (a : Vec Ideal S4096x256 .f32) (r : Fin 4096) (l : Fin 128)
    (h : ∃ m, RowInv (sc q kv r) (vl kv) (512 * b + r.val % 512) (512 * (b + 1)) m (fun l => a (ix2 r l))) :
    k0_pay29 a (ix2 r l) = ((attn (sc q kv r) (fun k => (kv (ix3 0 (Fin.ofNat 8192 k) ⟨l.val, by omega⟩) : EReal).toReal) (512 * b + r.val % 512) 8192 : ℝ) : EReal) := by
  obtain ⟨m, h⟩ := h
  rw [div_apply]
  refine (h.div (by omega) 8192 (by omega) ⟨l.val, by omega⟩ ⟨128 + l.val, by omega⟩ fun k => ?_).trans ?_
  · simp [vl]
  · have hl := l.isLt
    simp only [vl, hl, if_true]

end Cert.KernelIdeal.Att

end
-- ==== Proof.Array.lean ====
/- The attention kernel's result array read at an index: the row's attention, from the two arguments. -/
module

public import proofs.«01_k».proof.Proof.Blocks
public import proofs.«01_k».proof.Proof.Cases
public import proofs.«01_k».proof.Proof.Result
public import proofs.«01_k».proof.Proof.Gen.KernelIdeal.Value

@[expose] public section

noncomputable section

namespace Cert.KernelIdeal.Att

open Idealize.ShloMosaic Idealize.ShloMosaic.TcCoe Cert.KernelIdeal Cert.KernelIdeal.Gen Cert.KernelIdeal.Value Cert.OnlineSoftmax Cert.Att

/-- A grid point's blocks in the three input arrays, and its second coordinate. -/
theorem point_facts : ∀ t : Fin cfg0.N, win0_0.index t (0 : Fin 3) = t.val ∧ win0_0.index t (1 : Fin 3) = 0 ∧ win0_0.index t (2 : Fin 3) = 0
    ∧ win0_1.index t (0 : Fin 3) = 16 * (t.val / 16) + min (t.val % 16 + 1) 15 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ ((grid0.coords t) 1).val = t.val % 16 :=
  (by decide +kernel : ∀ t : Fin grid0.N, _)

variable {F : FTy → Type} [FloatOps F] [Named F]
variable (m : (ℓ : Loc nD τ sig) → Buf (Elt F) ℓ) (c : Dev nD)

/-- The region finds the queries with heads and positions of a block in one axis. -/
theorem V_queries : V m c main_v0 = shapeCast S64x4096x256 (m ((c : Thread nD τ).loc main_arg0)) shapeCasts_S64x8x512x256_S64x4096x256 := rfl

/-- The region finds the cached rows by sequence. -/
theorem V_cache : V m c main_v1 = shapeCast S4x8192x256 (m ((c : Thread nD τ).loc main_arg1)) shapeCasts_S32768x256_S4x8192x256 := rfl

/-- A row of a point's query block is the argument's row. -/
theorem query_block (t : Fin cfg0.N) (r : Fin 4096) (d : Fin 256) :
    (iblk m c 0 t : Vec F S1x4096x256 .bf16) (ix3 0 r d)
      = m ((c : Thread nD τ).loc main_arg0) (ix4 (Fin.ofNat 64 t.val) (Fin.ofNat 8 (r.val / 512)) (Fin.ofNat 512 (r.val % 512)) d) := by
  obtain ⟨e0, e1, e2, -⟩ := point_facts t
  have hr := r.isLt; have hd := d.isLt
  have ht : t.val < 64 := lt_of_lt_of_eq t.isLt N_0
  show V m c main_v0 (((cfg0.win 0).blk t).view.emb (ix3 0 r d)) = _
  rw [V_queries]
  refine shapeCast_apply _ _ _ _ ?_
  have hb0 : (((cfg0.win 0).blk t).view.emb (ix3 0 r d) 0).val = win0_0.index t (0 : Fin 3) * 1 + 1 * 0 := rfl
  have hb1 : (((cfg0.win 0).blk t).view.emb (ix3 0 r d) 1).val = win0_0.index t (1 : Fin 3) * 4096 + 1 * r.val := rfl
  have hb2 : (((cfg0.win 0).blk t).view.emb (ix3 0 r d) 2).val = win0_0.index t (2 : Fin 3) * 256 + 1 * d.val := rfl
  refine (Shape.rowMajor_val_four ..).trans (Eq.trans ?_ (Shape.rowMajor_val_three ..).symm)
  show ((t.val % 64 * 8 + r.val / 512 % 8) * 512 + r.val % 512 % 512) * 256 + d.val = ((((cfg0.win 0).blk t).view.emb (ix3 0 r d) 0).val * 4096 + (((cfg0.win 0).blk t).view.emb (ix3 0 r d) 1).val) * 256 + (((cfg0.win 0).blk t).view.emb (ix3 0 r d) 2).val
  rw [hb0, hb1, hb2, e0, e1, e2]
  omega

/-- A row of a point's cached block is the argument's row. -/
theorem cache_block (t : Fin cfg0.N) (k : Fin 8192) (d : Fin 256) :
    (iblk m c 2 t : Vec F S1x8192x256 .bf16) (ix3 0 k d)
      = m ((c : Thread nD τ).loc main_arg1) (ix2 (Fin.ofNat 32768 (8192 * (t.val / 16) + k.val)) d) := by
  obtain ⟨-, -, -, -, -, -, e0, e1, e2, -⟩ := point_facts t
  have hk := k.isLt; have hd := d.isLt
  have ht : t.val < 64 := lt_of_lt_of_eq t.isLt N_0
  show V m c main_v1 (((cfg0.win 2).blk t).view.emb (ix3 0 k d)) = _
  rw [V_cache]
  refine shapeCast_apply _ _ _ _ ?_
  have hb0 : (((cfg0.win 2).blk t).view.emb (ix3 0 k d) 0).val = win0_2.index t (0 : Fin 3) * 1 + 1 * 0 := rfl
  have hb1 : (((cfg0.win 2).blk t).view.emb (ix3 0 k d) 1).val = win0_2.index t (1 : Fin 3) * 8192 + 1 * k.val := rfl
  have hb2 : (((cfg0.win 2).blk t).view.emb (ix3 0 k d) 2).val = win0_2.index t (2 : Fin 3) * 256 + 1 * d.val := rfl
  refine (Shape.rowMajor_val_two ..).trans (Eq.trans ?_ (Shape.rowMajor_val_three ..).symm)
  show (8192 * (t.val / 16) + k.val) % 32768 * 256 + d.val = ((((cfg0.win 2).blk t).view.emb (ix3 0 k d) 0).val * 8192 + (((cfg0.win 2).blk t).view.emb (ix3 0 k d) 1).val) * 256 + (((cfg0.win 2).blk t).view.emb (ix3 0 k d) 2).val
  rw [hb0, hb1, hb2, e0, e1, e2]
  omega

/-- Within a sequence, the queries a point reads ahead are the next point's. -/
theorem ahead_block (t s : Fin cfg0.N) (hts : t.val = s.val + 1) (h : ¬t.val % 16 = 0) :
    (iblk m c 1 s : Vec F S1x4096x256 .bf16) = iblk m c 0 t := by
  obtain ⟨e0, e1, e2, -⟩ := point_facts t
  obtain ⟨-, -, -, f0, f1, f2, -⟩ := point_facts s
  funext y
  show V m c main_v0 (((cfg0.win 1).blk s).view.emb y) = V m c main_v0 (((cfg0.win 0).blk t).view.emb y)
  refine congrArg (V m c main_v0) (funext fun a => Fin.ext ?_)
  match a with
  | ⟨0, _⟩ => show win0_1.index s (0 : Fin 3) * 1 + 1 * (y 0).val = win0_0.index t (0 : Fin 3) * 1 + 1 * (y 0).val; omega
  | ⟨1, _⟩ => show win0_1.index s (1 : Fin 3) * 4096 + 1 * (y 1).val = win0_0.index t (1 : Fin 3) * 4096 + 1 * (y 1).val; omega
  | ⟨2, _⟩ => show win0_1.index s (2 : Fin 3) * 256 + 1 * (y 2).val = win0_0.index t (2 : Fin 3) * 256 + 1 * (y 2).val; omega

/-- Within a sequence, a point and the next read the same cached rows. -/
theorem same_cache (t s : Fin cfg0.N) (hts : t.val = s.val + 1) (h : ¬t.val % 16 = 0) :
    (iblk m c 2 s : Vec F S1x8192x256 .bf16) = iblk m c 2 t := by
  obtain ⟨-, -, -, -, -, -, e0, e1, e2, -⟩ := point_facts t
  obtain ⟨-, -, -, -, -, -, f0, f1, f2, -⟩ := point_facts s
  funext y
  show V m c main_v1 (((cfg0.win 2).blk s).view.emb y) = V m c main_v1 (((cfg0.win 2).blk t).view.emb y)
  refine congrArg (V m c main_v1) (funext fun a => Fin.ext ?_)
  match a with
  | ⟨0, _⟩ => show win0_2.index s (0 : Fin 3) * 1 + 1 * (y 0).val = win0_2.index t (0 : Fin 3) * 1 + 1 * (y 0).val; omega
  | ⟨1, _⟩ => show win0_2.index s (1 : Fin 3) * 8192 + 1 * (y 1).val = win0_2.index t (1 : Fin 3) * 8192 + 1 * (y 1).val; omega
  | ⟨2, _⟩ => show win0_2.index s (2 : Fin 3) * 256 + 1 * (y 2).val = win0_2.index t (2 : Fin 3) * 256 + 1 * (y 2).val; omega

/-- What a point carries on: the scores of the queries read ahead against the first key block. -/
theorem carried (t : Fin cfg0.N) :
    (outsAt0 m c t.val t.isLt).2 = k0_pay28 (k0_pay24 (iblk m c 1 t)) (keys (iblk m c 2 t) 0) := by
  by_cases h0 : t.val % 16 = 0
  · rw [outsAt0_A m c t h0 (by omega)]
    dsimp only
    exact sout_A (F := F) ..
  · rw [outsAt0_B m c t h0 (by omega)]
    dsimp only
    exact sout_B (F := F) ..

/-- A sequence's first point's output. -/
theorem out_first (t : Fin cfg0.N) (h0 : t.val % 16 = 0) :
    (outsAt0 m c t.val t.isLt).1 = tileOut (accA (iblk m c 0 t) (iblk m c 2 t)) := by
  rw [outsAt0_A m c t h0 (by omega)]
  dsimp only
  exact out_A (F := F) ..

/-- A later point's output, from the scores of its own queries against the first key block. -/
theorem out_later (t : Fin cfg0.N) (h0 : ¬t.val % 16 = 0) :
    (outsAt0 m c t.val t.isLt).1
      = tileOut (accB (iblk m c 0 t) (iblk m c 2 t) (k0_pay2 (k0_pay14 (iblk m c 0 t)) (keys (iblk m c 2 t) 0)) (t.val % 16)) := by
  have hs : t.val - 1 < cfg0.N := Nat.lt_of_le_of_lt (Nat.sub_le _ _) t.isLt
  have hc := carried m c ⟨t.val - 1, hs⟩
  rw [ahead_block m c t ⟨t.val - 1, hs⟩ (show t.val = t.val - 1 + 1 by omega) h0,
    same_cache m c t ⟨t.val - 1, hs⟩ (show t.val = t.val - 1 + 1 by omega) h0] at hc
  have hp : ∀ (q : Vec F S1x4096x256 .bf16) (k : Vec F S1x512x256 .bf16), k0_pay28 (k0_pay24 q) k = k0_pay2 (k0_pay14 q) k :=
    fun q k => shapeCast_self _ _
  rw [hp] at hc
  obtain ⟨-, -, -, -, -, -, -, -, -, ei⟩ := point_facts t
  rw [outsAt0_B m c t h0 (by omega)]
  dsimp only
  refine (out_B (F := F) ..).trans ?_
  rw [ei, hc]

end Cert.KernelIdeal.Att

end
-- ==== Proof.Values.lean ====
/- The attention kernel's result array as the attention of its arguments. -/
module

public import proofs.«01_k».proof.Proof.Array

@[expose] public section

noncomputable section

namespace Cert.KernelIdeal.Att

open Idealize.ShloMosaic Idealize.ShloMosaic.TcCoe Cert.KernelIdeal Cert.KernelIdeal.Gen Cert.KernelIdeal.Value Cert.OnlineSoftmax Cert.Att

variable (m : (ℓ : Loc nD τ sig) → Buf (Elt Ideal) ℓ) (c : Dev nD)

/-- An element of a point's output is the attention of its row. -/
theorem point_value (h0 : AllReal (m ((c : Thread nD τ).loc main_arg0))) (h1 : AllReal (m ((c : Thread nD τ).loc main_arg1)))
    (t : Fin cfg0.N) (y : S1x512x1024.Idx) :
    ((outsAt0 m c t.val t.isLt).1 : Vec Ideal S1x512x1024 .bf16) y
      = result (m ((c : Thread nD τ).loc main_arg0)) (m ((c : Thread nD τ).loc main_arg1)) (t.val / 16) (512 * (t.val % 16) + (y 1).val) (y 2).val := by
  have hy1 : (y 1).val < 512 := (y 1).isLt
  have hy2 : (y 2).val < 1024 := (y 2).isLt
  have ht : t.val < 64 := lt_of_lt_of_eq t.isLt N_0
  have hq : AllReal (iblk m c 0 t : Vec Ideal S1x4096x256 .bf16) := fun x => h0 _
  have hk : AllReal (iblk m c 2 t : Vec Ideal S1x8192x256 .bf16) := fun x => h1 _
  obtain ⟨r, hr⟩ : ∃ r : Fin 4096, r.val = 512 * ((y 2).val / 128) + (y 1).val := ⟨⟨_, by omega⟩, rfl⟩
  obtain ⟨l, hl⟩ : ∃ l : Fin 128, l.val = (y 2).val % 128 := ⟨⟨_, by omega⟩, rfl⟩
  have er : Fin.ofNat 4096 (512 * ((y 2).val / 128) + (y 1).val) = r := by rw [← hr]; exact Fin.ext (Nat.mod_eq_of_lt r.isLt)
  have el : Fin.ofNat 128 ((y 2).val % 128) = l := by rw [← hl]; exact Fin.ext (Nat.mod_eq_of_lt l.isLt)
  have key : ∃ a : Vec Ideal S4096x256 .f32, (outsAt0 m c t.val t.isLt).1 = tileOut a
      ∧ ∃ μ, RowInv (sc (iblk m c 0 t) (iblk m c 2 t) r) (vl (iblk m c 2 t)) (512 * (t.val % 16) + r.val % 512) (512 * (t.val % 16 + 1)) μ (fun l => a (ix2 r l)) := by
    by_cases hz : t.val % 16 = 0
    · refine ⟨_, out_first m c t hz, ?_⟩
      rw [hz, Nat.mul_zero, Nat.zero_add, Nat.zero_add, Nat.mul_one]
      exact accA_row _ _ hq hk
    · exact ⟨_, out_later m c t hz, accB_row _ _ hq hk (by omega) _ rfl⟩
  obtain ⟨a, ha, hrow⟩ := key
  rw [ha, tileOut, er, el, tile_attn _ _ (t.val % 16) (by omega) a r l hrow, result]
  have hp : 512 * (t.val % 16) + r.val % 512 = 512 * (t.val % 16) + (y 1).val := by omega
  rw [hp]
  refine congrArg (fun x : ℝ => (x : EReal)) (attn_congr _ _ _ _ _ _ (fun k hk => ?_) (fun k hk => ?_))
  · unfold sc rowScore
    refine Finset.sum_congr rfl fun d _ => ?_
    rw [query_block, cache_block]
    have i0 : Fin.ofNat 64 t.val = Fin.ofNat 64 (16 * (t.val / 16) + (512 * (t.val % 16) + (y 1).val) / 512) :=
      Fin.ext (show t.val % 64 = (16 * (t.val / 16) + (512 * (t.val % 16) + (y 1).val) / 512) % 64 by omega)
    have i1 : Fin.ofNat 8 (r.val / 512) = Fin.ofNat 8 ((y 2).val / 128) := Fin.ext (show r.val / 512 % 8 = (y 2).val / 128 % 8 by omega)
    have i2 : Fin.ofNat 512 (r.val % 512) = Fin.ofNat 512 ((512 * (t.val % 16) + (y 1).val) % 512) :=
      Fin.ext (show r.val % 512 % 512 = (512 * (t.val % 16) + (y 1).val) % 512 % 512 by omega)
    have i3 : Fin.ofNat 32768 (8192 * (t.val / 16) + (Fin.ofNat 8192 k).val) = Fin.ofNat 32768 (8192 * (t.val / 16) + k) :=
      Fin.ext (show (8192 * (t.val / 16) + k % 8192) % 32768 = (8192 * (t.val / 16) + k) % 32768 by omega)
    rw [i0, i1, i2, i3]
  · unfold rowVal
    rw [cache_block]
    refine congrArg (fun v : EReal => v.toReal) (congrArg _ (congrArg₂ ix2 ?_ ?_))
    · exact Fin.ext (show (8192 * (t.val / 16) + k % 8192) % 32768 = (8192 * (t.val / 16) + k) % 32768 by omega)
    · exact Fin.ext (show l.val = (y 2).val % 128 % 256 by omega)

/-- The kernel's result at an index is the attention of its arguments. -/
theorem value (h0 : AllReal (m ((c : Thread nD τ).loc main_arg0))) (h1 : AllReal (m ((c : Thread nD τ).loc main_arg1))) (i : S4x8192x1024.Idx) :
    (G3 m c : Vec Ideal S4x8192x1024 .bf16) i
      = result (m ((c : Thread nD τ).loc main_arg0)) (m ((c : Thread nD τ).loc main_arg1)) (i 0).val (i 1).val (i 2).val := by
  have hi0 : (i 0).val < 4 := (i 0).isLt
  have hi1 : (i 1).val < 8192 := (i 1).isLt
  have hi2 : (i 2).val < 1024 := (i 2).isLt
  have hp : pt3Of i = 16 * (i 0).val + (i 1).val / 512 := by
    show 16 * ((i 0).val / 1 - 0) + 1 * ((i 1).val / 512 - 0) + 1 * ((i 2).val / 1024 - 0) = _
    omega
  have hN : pt3Of i < cfg0.N := by rw [hp]; exact lt_of_lt_of_eq (by omega) N_0.symm
  unfold G3
  rw [dif_pos hN, ← outsAt0_sweep m c (pt3Of i) hN]
  refine (point_value m c h0 h1 ⟨pt3Of i, hN⟩ (loc3Of i)).trans ?_
  have e0 : pt3Of i / 16 = (i 0).val := by rw [hp]; omega
  have e1 : 512 * (pt3Of i % 16) + (i 1).val % 512 = (i 1).val := by rw [hp]; omega
  have e2 : (i 2).val % 1024 = (i 2).val := by omega
  show result _ _ (pt3Of i / 16) (512 * (pt3Of i % 16) + (i 1).val % 512) ((i 2).val % 1024) = _
  rw [e0, e1, e2]

end Cert.KernelIdeal.Att

end
-- ==== Proof.Finite.lean ====
/- The precondition's arrays of comparisons, all true, say that every argument element is a real. -/
module

public import proofs.«01_k».proof.Pre_finite
public import proofs.«01_k».proof.Proof.OnlineSoftmax

@[expose] public section

noncomputable section

namespace Cert.Pre_finite

open Idealize.ShloMosaic Cert.OnlineSoftmax

/-- An element whose absolute value is below infinity is a real. -/
theorem real_of_lt (x : EReal)
    (h : FloatOps.cmpf (F := Ideal) (φ := .f32) .olt (FloatOps.absf (F := Ideal) (φ := .f32) x) (FloatOps.ofBits (F := Ideal) .f32 0x7F800000#32) = 1#1) :
    (x.toReal : EReal) = x := by
  have hb : (FloatOps.ofBits (F := Ideal) FTy.f32 0x7F800000#32 : EReal) = ⊤ := by
    simp [FloatOps.ofBits, Ideal.ofBits, Ideal.ieee]
  have hlt : max x (-x) < ⊤ := by
    by_contra hn
    have hf : FloatOps.cmpf (F := Ideal) (φ := .f32) .olt (FloatOps.absf (F := Ideal) (φ := .f32) x) (FloatOps.ofBits (F := Ideal) .f32 0x7F800000#32) = 0#1 := by
      rw [hb]
      show BitVec.ofBool (decide (max x (-x) < ⊤)) = 0#1
      rw [decide_eq_false hn]
      rfl
    rw [hf] at h
    exact absurd h (by decide)
  refine EReal.coe_toReal ?_ ?_
  · rintro rfl; simp at hlt
  · rintro rfl; simp at hlt

variable [Facts]

theorem real_fst (a0 : FVec Ideal S64x8x512x256 .bf16) (a1 : FVec Ideal S32768x256 .bf16) (h : (fn (F := Ideal) a0 a1).1 = fun _ => 1#1) :
    AllReal a0 := fun x => real_of_lt _ (congrFun h x)

theorem real_snd (a0 : FVec Ideal S64x8x512x256 .bf16) (a1 : FVec Ideal S32768x256 .bf16) (h : (fn (F := Ideal) a0 a1).2 = fun _ => 1#1) :
    AllReal a1 := fun x => real_of_lt _ (congrFun h x)

end Cert.Pre_finite

end
-- ==== Proof.FeedForward.lean ====
/- A gated feed-forward row and a normalised row on the extended reals, and a sum over the 2816 hidden columns taken 256
   at a time. -/
module

public import Idealize.ShloMosaic.Lib.Pointwise

@[expose] public section

noncomputable section

namespace Cert.Ffn

open Idealize.ShloMosaic

/-- A 32-bit word as an extended real. -/
abbrev word (b : BitVec 32) : EReal := FloatOps.ofBits (F := Ideal) FTy.f32 b

/-- A gate times its logistic, times the other factor. -/
def swish (a b : EReal) : EReal := a * Ideal.div (word 0x3F800000#32) (word 0x3F800000#32 + Ideal.exp (-a)) * b

/-- Hidden column `f` of a row. -/
def hidden (x : Fin 1024 → EReal) (wg wu : Fin 1024 → Fin 2816 → EReal) (f : Fin 2816) : EReal :=
  swish (∑ k, x k * wg k f) (∑ k, x k * wu k f)

/-- Column `j` of the feed-forward product of a row. -/
def ffn (x : Fin 1024 → EReal) (wg wu : Fin 1024 → Fin 2816 → EReal) (wd : Fin 2816 → Fin 1024 → EReal) (j : Fin 1024) : EReal :=
  ∑ f, hidden x wg wu f * wd f j

/-- A row's mean. -/
def mean (y : Fin 1024 → EReal) : EReal := Ideal.div (∑ k, y k) (word 0x44800000#32)

/-- Column `j` of a normalised row. -/
def norm (y : Fin 1024 → EReal) (g b : Fin 1024 → EReal) (j : Fin 1024) : EReal :=
  (y j - mean y) * Ideal.rsqrt (mean (fun k => (y k - mean y) * (y k - mean y)) + word 0x3727C5AC#32) * g j + b j

/-- A row scaled and added to half its feed-forward product. -/
def mixed (x : Fin 1024 → EReal) (wg wu : Fin 1024 → Fin 2816 → EReal) (wd : Fin 2816 → Fin 1024 → EReal) (j : Fin 1024) : EReal :=
  word 0x3F9837F0#32 * x j + word 0x3F000000#32 * ffn x wg wu wd j

/-- The feed-forward part of a layer on a row. -/
def block (x : Fin 1024 → EReal) (wg wu : Fin 1024 → Fin 2816 → EReal) (wd : Fin 2816 → Fin 1024 → EReal) (g b : Fin 1024 → EReal) (j : Fin 1024) : EReal :=
  norm (mixed x wg wu wd) g b j

/-- The word of zero bits. -/
theorem word_zero : word 0x00000000#32 = 0 := by
  simp [word, FloatOps.ofBits, Ideal.ofBits, Ideal.ieee]

/-- The word of one. -/
theorem word_one : word 0x3F800000#32 = 1 := by
  simp [word, FloatOps.ofBits, Ideal.ofBits, Ideal.ieee]
  rw [← EReal.coe_mul]
  norm_num

/-- Part `n` of a sum over the hidden columns: columns `256 n` to `256 n + 255`. -/
def part (h : Fin 2816 → EReal) (n : ℕ) : EReal := ∑ l : Fin 256, h (Fin.ofNat 2816 (256 * n + l.val))

/-- A sum over the hidden columns is its eleven parts added one after another. -/
theorem sum_parts (h : Fin 2816 → EReal) :
    ∑ f, h f = 0 + part h 0 + part h 1 + part h 2 + part h 3 + part h 4 + part h 5 + part h 6 + part h 7 + part h 8 + part h 9 + part h 10 := by
  rw [Fin.sum_univ_tiles 11 256 (by norm_num) h]
  have e : ∀ n : Fin 11, (∑ t : Fin 256, h ⟨n.val * 256 + t.val, by have := n.isLt; have := t.isLt; omega⟩) = part h n.val := fun n => by
    unfold part
    refine Finset.sum_congr rfl fun t _ => congrArg h (Fin.ext ?_)
    have := n.isLt; have := t.isLt
    show n.val * 256 + t.val = (256 * n.val + t.val) % 2816
    omega
  rw [Finset.sum_congr rfl fun n _ => e n, Fin.sum_univ_eq_sum_range (fun n => part h n) 11]
  simp only [Finset.sum_range_succ, Finset.sum_range_zero]

end Cert.Ffn

end
-- ==== Proof.FfnRef.lean ====
/- The first feed-forward part's plain reference read at an index. -/
module

public import proofs.«01_k».proof.Proof.Gen.Reference3Ideal.Read
public import proofs.«01_k».proof.Proof.FeedForward

@[expose] public section

noncomputable section

namespace Cert.Reference3Ideal.Ffn

open Idealize.ShloMosaic Cert.Reference3Ideal Cert.Reference3Ideal.Gen Cert.Reference3Ideal.Read Cert.Ffn

variable (x0 : (⟨S32768x1024, .f32⟩ : BufTy).Contents (Elt Ideal)) (x1 x2 : (⟨S1024x2816, .f32⟩ : BufTy).Contents (Elt Ideal))
  (x3 : (⟨S2816x1024, .f32⟩ : BufTy).Contents (Elt Ideal)) (x4 x5 : (⟨S1024, .f32⟩ : BufTy).Contents (Elt Ideal))

/-- A row of the residual stream. -/
abbrev row (r : Fin 32768) : Fin 1024 → EReal := fun k => x0 (ix2 r k)

/-- A matrix by its two indices. -/
abbrev mat {a b : ℕ} (w : (⟨2, ![a, b]⟩ : Shape).Idx → EReal) : Fin a → Fin b → EReal := fun k l => w (ix2 k l)

/-- A vector by its index. -/
abbrev vec {a : ℕ} (w : (⟨1, ![a]⟩ : Shape).Idx → EReal) : Fin a → EReal := fun k => w (ix1 k)

/-- A gate before its logistic. -/
theorem gate_apply (r : Fin 32768) (f : Fin 2816) :
    val_main_v2 (F := Ideal) x0 x1 (ix2 r f) = ∑ k, row x0 r k * mat x1 k f := by
  rw [val_main_v2_apply]
  refine Finset.sum_congr rfl fun k _ => congrArg₂ (· * ·) (congrArg x0 ?_) (congrArg x1 ?_)
  · funext a; match a with | ⟨0, _⟩ => rfl | ⟨1, _⟩ => rfl
  · funext a; match a with | ⟨0, _⟩ => rfl | ⟨1, _⟩ => rfl

/-- The factor a gate multiplies. -/
theorem up_apply (r : Fin 32768) (f : Fin 2816) :
    val_main_v4 (F := Ideal) x0 x2 (ix2 r f) = ∑ k, row x0 r k * mat x2 k f := by
  rw [val_main_v4_apply]
  refine Finset.sum_congr rfl fun k _ => congrArg₂ (· * ·) (congrArg x0 ?_) (congrArg x2 ?_)
  · funext a; match a with | ⟨0, _⟩ => rfl | ⟨1, _⟩ => rfl
  · funext a; match a with | ⟨0, _⟩ => rfl | ⟨1, _⟩ => rfl

/-- A hidden column. -/
theorem hidden_apply (r : Fin 32768) (f : Fin 2816) :
    val_main_v5 (F := Ideal) x0 x1 x2 (ix2 r f) = hidden (row x0 r) (mat x1) (mat x2) f := by
  rw [val_main_v5_apply, val_main_v3_apply, val_main_call0_v5_apply, val_main_call0_v4_apply, val_main_call0_cst_0_apply, val_main_call0_v3_apply,
    val_main_call0_v2_apply, val_main_call0_cst_apply, val_main_call0_v1_apply, val_main_call0_v0_apply, gate_apply, up_apply]
  rfl

/-- The feed-forward product. -/
theorem ffn_apply (r : Fin 32768) (j : Fin 1024) :
    val_main_v6 (F := Ideal) x0 x1 x2 x3 (ix2 r j) = ffn (row x0 r) (mat x1) (mat x2) (mat x3) j := by
  rw [val_main_v6_apply]
  unfold ffn
  refine Finset.sum_congr rfl fun f _ => ?_
  have e0 : lidx_main_v6 (ix2 r j) f = ix2 r f := by funext a; match a with | ⟨0, _⟩ => rfl | ⟨1, _⟩ => rfl
  have e1 : ridx_main_v6 (ix2 r j) f = ix2 f j := by funext a; match a with | ⟨0, _⟩ => rfl | ⟨1, _⟩ => rfl
  rw [e0, e1, hidden_apply]

/-- The row to be normalised. -/
theorem mixed_apply (r : Fin 32768) (j : Fin 1024) :
    val_main_v9 (F := Ideal) x0 x1 x2 x3 (ix2 r j) = mixed (row x0 r) (mat x1) (mat x2) (mat x3) j := by
  rw [val_main_v9_apply, val_main_v1_apply, val_main_v0_apply, val_main_cst_apply, val_main_v8_apply, val_main_v7_apply, val_main_cst_0_apply, ffn_apply]
  rfl

/-- The row's mean. -/
theorem mean_apply (i : S32768x1.Idx) (r : Fin 32768) (h : idx_main_v11 i = ix1 r) :
    val_main_v13 (F := Ideal) x0 x1 x2 x3 i = mean (mixed (row x0 r) (mat x1) (mat x2) (mat x3)) := by
  rw [val_main_v13_apply, val_main_v11_apply, h, val_main_v10_apply, val_main_v12_apply, val_main_cst_2_apply, val_main_cst_1_apply]
  have e : ∀ k, idx_main_v10 (ix1 r) k = ix2 r k := fun k => by funext a; match a with | ⟨0, _⟩ => rfl | ⟨1, _⟩ => rfl
  simp only [e, mixed_apply]
  rw [show (FloatOps.ofBits (F := Ideal) FTy.f32 0x00000000#32 : EReal) = 0 from word_zero, zero_add]
  rfl

/-- The row's mean of squared deviations. -/
theorem var_apply (r : Fin 32768) (i : S32768x1.Idx) (h : idx_main_v18 i = ix1 r) :
    val_main_v20 (F := Ideal) x0 x1 x2 x3 i
      = mean (fun k => (mixed (row x0 r) (mat x1) (mat x2) (mat x3) k - mean (mixed (row x0 r) (mat x1) (mat x2) (mat x3)))
          * (mixed (row x0 r) (mat x1) (mat x2) (mat x3) k - mean (mixed (row x0 r) (mat x1) (mat x2) (mat x3)))) := by
  rw [val_main_v20_apply, val_main_v18_apply, h, val_main_v17_apply, val_main_v19_apply, val_main_cst_4_apply, val_main_cst_3_apply]
  have e : ∀ k, val_main_v16 (F := Ideal) x0 x1 x2 x3 (idx_main_v17 (ix1 r) k)
      = (mixed (row x0 r) (mat x1) (mat x2) (mat x3) k - mean (mixed (row x0 r) (mat x1) (mat x2) (mat x3)))
          * (mixed (row x0 r) (mat x1) (mat x2) (mat x3) k - mean (mixed (row x0 r) (mat x1) (mat x2) (mat x3))) := fun k => by
    have e1 : idx_main_v17 (ix1 r) k = ix2 r k := by funext a; match a with | ⟨0, _⟩ => rfl | ⟨1, _⟩ => rfl
    rw [e1, val_main_v16_apply, val_main_v15_apply, val_main_v14_apply, mixed_apply,
      mean_apply x0 x1 x2 x3 (idx_main_v14 (ix2 r k)) r (by funext a; match a with | ⟨0, _⟩ => rfl)]
    rfl
  simp only [e]
  rw [show (FloatOps.ofBits (F := Ideal) FTy.f32 0x00000000#32 : EReal) = 0 from word_zero, zero_add]
  rfl

/-- The reference's result at an index. -/
theorem value (r : Fin 32768) (j : Fin 1024) :
    val_main_v33 (F := Ideal) x0 x1 x2 x3 x4 x5 (ix2 r j) = block (row x0 r) (mat x1) (mat x2) (mat x3) (vec x4) (vec x5) j := by
  have e4 : idx_main_v28 (idx_main_v29 (ix2 r j)) = ix1 j := by funext a; match a with | ⟨0, _⟩ => rfl
  have e5 : idx_main_v31 (idx_main_v32 (ix2 r j)) = ix1 j := by funext a; match a with | ⟨0, _⟩ => rfl
  rw [val_main_v33_apply, val_main_v30_apply, val_main_v27_apply, val_main_v22_apply, val_main_v21_apply, val_main_v26_apply, val_main_v25_apply,
    val_main_v24_apply, val_main_v23_apply, val_main_cst_5_apply, val_main_v29_apply, val_main_v28_apply, val_main_v32_apply, val_main_v31_apply, e4, e5,
    mixed_apply, mean_apply x0 x1 x2 x3 (idx_main_v21 (ix2 r j)) r (by funext a; match a with | ⟨0, _⟩ => rfl),
    var_apply x0 x1 x2 x3 r (idx_main_v26 (ix2 r j)) (by funext a; match a with | ⟨0, _⟩ => rfl)]
  rfl

end Cert.Reference3Ideal.Ffn

end
-- ==== Proof.FfnRow.lean ====
/- What a grid point of the first feed-forward kernel computes: eleven parts of the hidden columns added one after
   another, then the normalisation, read at an index. -/
module

public import proofs.«01_k».proof.Proof.Gen.Kernel3Ideal.Value
public import proofs.«01_k».proof.Proof.FeedForward

@[expose] public section

noncomputable section

namespace Cert.Kernel3Ideal.Ffn

open Idealize.ShloMosaic Idealize.ShloMosaic.Tactic Cert.Kernel3Ideal Cert.Kernel3Ideal.Gen Cert.Ffn

section
variable {F : FTy → Type} [FloatOps F]

/-- One part: 256 hidden columns from their weights, multiplied back and added. -/
def step (v : FVec F S512x1024 .bf16) (a : FVec F S512x1024 .f32) (g u : Vec F S1024x256 .bf16) (d : Vec F S256x1024 .bf16) : FVec F S512x1024 .f32 :=
  have G : FVec F S512x256 .f32 := matmul dot_S512x1024_S1024x256_S512x256_1_0_0_1_n_n none v g (constant S512x256 .f32 0x00000000#32)
  have U : FVec F S512x256 .f32 := matmul dot_S512x1024_S1024x256_S512x256_1_0_0_1_n_n none v u (constant S512x256 .f32 0x00000000#32)
  have s : FVec F S512x256 .f32 := divf (broadcast S512x256 (Scalar.ofBits .f32 0x3F800000#32))
    (addf (broadcast S512x256 (Scalar.ofBits .f32 0x3F800000#32)) (exp (subf (broadcast S512x256 (Scalar.ofBits .f32 0x00000000#32)) G)))
  addf a (matmul dot_S512x256_S256x1024_S512x1024_1_0_0_1_n_n none (truncf .bf16 (mulf (mulf G s) U) bitsLt_bf16_f32) d (constant S512x1024 .f32 0x00000000#32))

/-- The weights' columns of part `n`. -/
def cols (w : Vec F S1024x2816 .bf16) (n : ℕ) : Vec F S1024x256 .bf16 := fun y => w (ix2 (y 0) (Fin.ofNat 2816 (256 * n + (y 1).val)))

/-- The weights' rows of part `n`. -/
def rows (w : Vec F S2816x1024 .bf16) (n : ℕ) : Vec F S256x1024 .bf16 := fun y => w (ix2 (Fin.ofNat 2816 (256 * n + (y 0).val)) (y 1))

/-- The parts before part `n`, added. -/
def acc (v : FVec F S512x1024 .bf16) (x1 x2 : Vec F S1024x2816 .bf16) (x3 : Vec F S2816x1024 .bf16) : ℕ → FVec F S512x1024 .f32
  | 0 => broadcast S512x1024 (Scalar.ofBits .f32 0x00000000#32)
  | n + 1 => step v (acc v x1 x2 x3 n) (cols x1 n) (cols x2 n) (rows x3 n)

/-- A load of part `n`'s columns. -/
theorem ld_cols (w : Vec F S1024x2816 .bf16) (n : ℕ) (hn : n < 11) (o : ℕ) (ho : o = 256 * n)
    (inb : ∀ b, (![0, o] : Fin 2 → ℕ) b + (![1024, 256] : Fin 2 → ℕ) b ≤ S1024x2816.size b) :
    View.ld w (Rect.unit (s := S1024x2816) ![0, o] ![1024, 256] inb) = cols w n := by
  subst ho
  funext y
  refine congrArg w (funext fun a => Fin.ext ?_)
  have h1 : (y 1).val < 256 := (y 1).isLt
  match a with
  | ⟨0, _⟩ => show 0 + 1 * (y 0).val = (y 0).val; omega
  | ⟨1, _⟩ => show 256 * n + 1 * (y 1).val = (256 * n + (y 1).val) % 2816; omega

/-- A load of part `n`'s rows. -/
theorem ld_rows (w : Vec F S2816x1024 .bf16) (n : ℕ) (hn : n < 11) (o : ℕ) (ho : o = 256 * n)
    (inb : ∀ b, (![o, 0] : Fin 2 → ℕ) b + (![256, 1024] : Fin 2 → ℕ) b ≤ S2816x1024.size b) :
    View.ld w (Rect.unit (s := S2816x1024) ![o, 0] ![256, 1024] inb) = rows w n := by
  subst ho
  funext y
  refine congrArg w (funext fun a => Fin.ext ?_)
  have h0 : (y 0).val < 256 := (y 0).isLt
  match a with
  | ⟨0, _⟩ => show 256 * n + 1 * (y 0).val = (256 * n + (y 0).val) % 2816; omega
  | ⟨1, _⟩ => show 0 + 1 * (y 1).val = (y 1).val; omega

section
variable (v : FVec F S512x1024 .bf16) (a : FVec F S512x1024 .f32) (g g' u u' : Vec F S1024x256 .bf16) (d d' : Vec F S256x1024 .bf16)

theorem pay3_eq (v0 : Vec F S512x1024 .f32) :
    k0_pay3 v0 g u d = step (k0_pay2 v0) (broadcast S512x1024 (Scalar.ofBits .f32 0x00000000#32)) g u d := by
  simp only [k0_pay3, shapeCast_self]; rfl

theorem pay8_eq (v0 : Vec F S512x1024 .f32) :
    k0_pay8 (k0_pay2 v0) a (k0_pay4 v0 g) (k0_pay5 v0 u) (k0_pay6 v0 g) k0_pay7 d g' u' d'
      = step (k0_pay2 v0) (step (k0_pay2 v0) a g u d) g' u' d' := by
  simp only [k0_pay8, k0_pay4, k0_pay5, k0_pay6, k0_pay7, shapeCast_self]; rfl

theorem pay12_eq : k0_pay12 v a (k0_pay9 v g) (k0_pay10 v u) (k0_pay11 v g) (Scalar.ofBits .f32 0x3F800000#32) d g' u' d'
    = step v (step v a g u d) g' u' d' := by
  simp only [k0_pay12, k0_pay9, k0_pay10, k0_pay11, shapeCast_self]; rfl

theorem pay15_eq : k0_pay15 v a (k0_pay13 v g) (k0_pay14 v u) (Scalar.ofBits .f32 0x00000000#32) d g' u' d'
    = step v (step v a g u d) g' u' d' := by
  simp only [k0_pay15, k0_pay13, k0_pay14, shapeCast_self]; rfl

theorem pay17_eq : k0_pay17 v a (k0_pay16 v g) u d g' u' d' = step v (step v a g u d) g' u' d' := by
  simp only [k0_pay17, k0_pay16, shapeCast_self]; rfl

theorem pay19_eq : k0_pay19 v a (k0_pay18 g) (constant S512x256 .f32 0x00000000#32) u d g' u' d' = step v (step v a g u d) g' u' d' := by
  simp only [k0_pay19, k0_pay18, shapeCast_self]; rfl

end

set_option maxRecDepth 8192 in
/-- What a grid point leaves: the eleven parts' sum, normalised. -/
theorem out_eq (x0 : Vec F S512x1024 .f32) (x1 x2 : Vec F S1024x2816 .bf16) (x3 : Vec F S2816x1024 .bf16) (x4 x5 : Vec F S1x1024 .f32) :
    out0_6 x0 x1 x2 x3 x4 x5 = k0_pay1 x0 (acc (k0_pay2 x0) x1 x2 x3 11) (Scalar.ofBits .f32 0x3F9837F0#32) x4 x5 := by
  have e0 : ∀ x : Vec F S512x1024 .f32, View.ld x r0_0 = x := fun x => View.ld_unit_zero (funext fun b => match b with | ⟨0, _⟩ => rfl | ⟨1, _⟩ => rfl) _ x
  have e23 : ∀ x : Vec F S1x1024 .f32, View.ld x r0_23 = x := fun x => View.ld_unit_zero (funext fun b => match b with | ⟨0, _⟩ => rfl | ⟨1, _⟩ => rfl) _ x
  unfold out0_6 k0_pay20
  rw [e0, e23, e23, pay3_eq, pay8_eq, pay12_eq, pay15_eq, pay17_eq, pay19_eq]
  rw [ld_cols x1 0 (by omega) _ rfl, ld_cols x1 1 (by omega) _ rfl, ld_cols x1 2 (by omega) _ rfl, ld_cols x1 3 (by omega) _ rfl,
    ld_cols x1 4 (by omega) _ rfl, ld_cols x1 5 (by omega) _ rfl, ld_cols x1 6 (by omega) _ rfl, ld_cols x1 7 (by omega) _ rfl,
    ld_cols x1 8 (by omega) _ rfl, ld_cols x1 9 (by omega) _ rfl, ld_cols x1 10 (by omega) _ rfl]
  rw [ld_cols x2 0 (by omega) _ rfl, ld_cols x2 1 (by omega) _ rfl, ld_cols x2 2 (by omega) _ rfl, ld_cols x2 3 (by omega) _ rfl,
    ld_cols x2 4 (by omega) _ rfl, ld_cols x2 5 (by omega) _ rfl, ld_cols x2 6 (by omega) _ rfl, ld_cols x2 7 (by omega) _ rfl,
    ld_cols x2 8 (by omega) _ rfl, ld_cols x2 9 (by omega) _ rfl, ld_cols x2 10 (by omega) _ rfl]
  rw [ld_rows x3 0 (by omega) _ rfl, ld_rows x3 1 (by omega) _ rfl, ld_rows x3 2 (by omega) _ rfl, ld_rows x3 3 (by omega) _ rfl,
    ld_rows x3 4 (by omega) _ rfl, ld_rows x3 5 (by omega) _ rfl, ld_rows x3 6 (by omega) _ rfl, ld_rows x3 7 (by omega) _ rfl,
    ld_rows x3 8 (by omega) _ rfl, ld_rows x3 9 (by omega) _ rfl, ld_rows x3 10 (by omega) _ rfl]
  exact View.canon_unit_zero (funext fun b => match b with | ⟨0, _⟩ => rfl | ⟨1, _⟩ => rfl) _ _

end

/-- A part read at an index. -/
theorem step_apply (v : FVec Ideal S512x1024 .bf16) (a : FVec Ideal S512x1024 .f32) (g u : Vec Ideal S1024x256 .bf16) (d : Vec Ideal S256x1024 .bf16)
    (r : Fin 512) (j : Fin 1024) :
    step v a g u d (ix2 r j) = a (ix2 r j)
      + ∑ l : Fin 256, swish (∑ k : Fin 1024, v (ix2 r k) * g (ix2 k l)) (∑ k : Fin 1024, v (ix2 r k) * u (ix2 k l)) * d (ix2 l j) := by
  pointwise [step, dot_S512x1024_S1024x256_S512x256_1_0_0_1_n_n, dot_S512x256_S256x1024_S512x1024_1_0_0_1_n_n]
  simp only [swish, zero_sub, zero_add, word_one]

/-- The parts' sum is the feed-forward product. -/
theorem acc_apply (v : FVec Ideal S512x1024 .bf16) (x1 x2 : Vec Ideal S1024x2816 .bf16) (x3 : Vec Ideal S2816x1024 .bf16) (r : Fin 512) (j : Fin 1024) :
    acc v x1 x2 x3 11 (ix2 r j)
      = ffn (fun k => v (ix2 r k)) (fun k f => x1 (ix2 k f)) (fun k f => x2 (ix2 k f)) (fun f l => x3 (ix2 f l)) j := by
  unfold ffn
  rw [sum_parts]
  have h0 : acc v x1 x2 x3 0 (ix2 r j) = 0 := word_zero
  have hs : ∀ n, acc v x1 x2 x3 (n + 1) (ix2 r j) = acc v x1 x2 x3 n (ix2 r j)
      + part (fun f => hidden (fun k => v (ix2 r k)) (fun k f => x1 (ix2 k f)) (fun k f => x2 (ix2 k f)) f * x3 (ix2 f j)) n := fun n => step_apply ..
  rw [hs, hs, hs, hs, hs, hs, hs, hs, hs, hs, hs, h0]

/-- The normalisation read at an index. -/
theorem norm_apply (x a : FVec Ideal S512x1024 .f32) (g b : Vec Ideal S1x1024 .f32) (r : Fin 512) (j : Fin 1024) :
    k0_pay1 x a (Scalar.ofBits .f32 0x3F9837F0#32) g b (ix2 r j)
      = norm (fun k => word 0x3F9837F0#32 * x (ix2 r k) + word 0x3F000000#32 * a (ix2 r k)) (fun k => g (ix2 0 k)) (fun k => b (ix2 0 k)) j := by
  pointwise [k0_pay1]
  rfl

/-- What a grid point leaves, read at an index. -/
theorem out_apply (x0 : Vec Ideal S512x1024 .f32) (x1 x2 : Vec Ideal S1024x2816 .bf16) (x3 : Vec Ideal S2816x1024 .bf16) (x4 x5 : Vec Ideal S1x1024 .f32)
    (r : Fin 512) (j : Fin 1024) :
    out0_6 x0 x1 x2 x3 x4 x5 (ix2 r j)
      = block (fun k => x0 (ix2 r k)) (fun k f => x1 (ix2 k f)) (fun k f => x2 (ix2 k f)) (fun f l => x3 (ix2 f l))
          (fun k => x4 (ix2 0 k)) (fun k => x5 (ix2 0 k)) j := by
  rw [out_eq, norm_apply]
  simp only [acc_apply]
  rfl

end Cert.Kernel3Ideal.Ffn

end
-- ==== Proof.FfnValues.lean ====
/- The first feed-forward kernel's result array as the feed-forward part of its arguments, row by row. -/
module

public import proofs.«01_k».proof.Proof.FfnRow

@[expose] public section

noncomputable section

namespace Cert.Kernel3Ideal.Ffn

open Idealize.ShloMosaic Idealize.ShloMosaic.TcCoe Cert.Kernel3Ideal Cert.Kernel3Ideal.Gen Cert.Kernel3Ideal.Value Cert.Ffn

/-- A grid point's blocks: rows move with the point, weights and scales do not. -/
theorem point_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (m : (ℓ : Loc nD τ sig) → Buf (Elt Ideal) ℓ) (c : Dev nD)

/-- A row of a point's block of the residual stream. -/
theorem rows_block (t : Fin cfg0.N) (r : Fin 512) (k : Fin 1024) (R : Fin 32768) (hR : R.val = 512 * t.val + r.val) :
    (iblk m c 0 t : Vec Ideal S512x1024 .f32) (ix2 r k) = m ((c : Thread nD τ).loc main_arg0) (ix2 R k) := by
  obtain ⟨e0, e1, -⟩ := point_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = R.val; omega
  | ⟨1, _⟩ => show win0_0.index t (1 : Fin 2) * 1024 + 1 * k.val = k.val; omega

/-- The gate weights of a point. -/
theorem gate_block (t : Fin cfg0.N) (k : Fin 1024) (f : Fin 2816) :
    (iblk m c 1 t : Vec Ideal S1024x2816 .bf16) (ix2 k f) = m ((c : Thread nD τ).loc main_arg1) (ix2 k f) := by
  obtain ⟨-, -, e0, e1, -⟩ := point_facts t
  refine Eq.trans (show _ = (m ((c : Thread nD τ).loc main_arg1)) (((cfg0.win 1).blk t).view.emb (ix2 k f)) from rfl) ?_
  refine congrArg (m ((c : Thread nD τ).loc main_arg1)) (funext fun a => Fin.ext ?_)
  match a with
  | ⟨0, _⟩ => show win0_1.index t (0 : Fin 2) * 1024 + 1 * k.val = k.val; omega
  | ⟨1, _⟩ => show win0_1.index t (1 : Fin 2) * 2816 + 1 * f.val = f.val; omega

/-- The other factor's weights of a point. -/
theorem up_block (t : Fin cfg0.N) (k : Fin 1024) (f : Fin 2816) :
    (iblk m c 2 t : Vec Ideal S1024x2816 .bf16) (ix2 k f) = m ((c : Thread nD τ).loc main_arg2) (ix2 k f) := by
  obtain ⟨-, -, -, -, e0, e1, -⟩ := point_facts t
  refine Eq.trans (show _ = (m ((c : Thread nD τ).loc main_arg2)) (((cfg0.win 2).blk t).view.emb (ix2 k f)) from rfl) ?_
  refine congrArg (m ((c : Thread nD τ).loc main_arg2)) (funext fun a => Fin.ext ?_)
  match a with
  | ⟨0, _⟩ => show win0_2.index t (0 : Fin 2) * 1024 + 1 * k.val = k.val; omega
  | ⟨1, _⟩ => show win0_2.index t (1 : Fin 2) * 2816 + 1 * f.val = f.val; omega

/-- The weights back to the model's width of a point. -/
theorem down_block (t : Fin cfg0.N) (f : Fin 2816) (k : Fin 1024) :
    (iblk m c 3 t : Vec Ideal S2816x1024 .bf16) (ix2 f k) = m ((c : Thread nD τ).loc main_arg3) (ix2 f k) := by
  obtain ⟨-, -, -, -, -, -, e0, e1, -⟩ := point_facts t
  refine Eq.trans (show _ = (m ((c : Thread nD τ).loc main_arg3)) (((cfg0.win 3).blk t).view.emb (ix2 f k)) from rfl) ?_
  refine congrArg (m ((c : Thread nD τ).loc main_arg3)) (funext fun a => Fin.ext ?_)
  match a with
  | ⟨0, _⟩ => show win0_3.index t (0 : Fin 2) * 2816 + 1 * f.val = f.val; omega
  | ⟨1, _⟩ => show win0_3.index t (1 : Fin 2) * 1024 + 1 * k.val = k.val; omega

/-- The normalisation's scale of a point. -/
theorem scale_block (t : Fin cfg0.N) (k : Fin 1024) :
    (iblk m c 4 t : Vec Ideal S1x1024 .f32) (ix2 0 k) = m ((c : Thread nD τ).loc main_arg4) (ix1 k) := by
  obtain ⟨-, -, -, -, -, -, -, -, e0, e1, -⟩ := point_facts t
  show V m c main_v3 (((cfg0.win 4).blk t).view.emb (ix2 0 k)) = _
  rw [show V m c main_v3 = shapeCast S1x1024 (m ((c : Thread nD τ).loc main_arg4)) shapeCasts_S1024_S1x1024 from rfl]
  refine shapeCast_apply _ _ _ _ ?_
  have hb0 : (((cfg0.win 4).blk t).view.emb (ix2 0 k) 0).val = win0_4.index t (0 : Fin 2) * 1 + 1 * 0 := rfl
  have hb1 : (((cfg0.win 4).blk t).view.emb (ix2 0 k) 1).val = win0_4.index t (1 : Fin 2) * 1024 + 1 * k.val := rfl
  refine (Shape.rowMajor_val_one ..).trans (Eq.trans ?_ (Shape.rowMajor_val_two ..).symm)
  show k.val = (((cfg0.win 4).blk t).view.emb (ix2 0 k) 0).val * 1024 + (((cfg0.win 4).blk t).view.emb (ix2 0 k) 1).val
  rw [hb0, hb1, e0, e1]
  omega

/-- The normalisation's shift of a point. -/
theorem shift_block (t : Fin cfg0.N) (k : Fin 1024) :
    (iblk m c 5 t : Vec Ideal S1x1024 .f32) (ix2 0 k) = m ((c : Thread nD τ).loc main_arg5) (ix1 k) := by
  obtain ⟨-, -, -, -, -, -, -, -, -, -, e0, e1, -⟩ := point_facts t
  show V m c main_v4 (((cfg0.win 5).blk t).view.emb (ix2 0 k)) = _
  rw [show V m c main_v4 = shapeCast S1x1024 (m ((c : Thread nD τ).loc main_arg5)) shapeCasts_S1024_S1x1024 from rfl]
  refine shapeCast_apply _ _ _ _ ?_
  have hb0 : (((cfg0.win 5).blk t).view.emb (ix2 0 k) 0).val = win0_5.index t (0 : Fin 2) * 1 + 1 * 0 := rfl
  have hb1 : (((cfg0.win 5).blk t).view.emb (ix2 0 k) 1).val = win0_5.index t (1 : Fin 2) * 1024 + 1 * k.val := rfl
  refine (Shape.rowMajor_val_one ..).trans (Eq.trans ?_ (Shape.rowMajor_val_two ..).symm)
  show k.val = (((cfg0.win 5).blk t).view.emb (ix2 0 k) 0).val * 1024 + (((cfg0.win 5).blk t).view.emb (ix2 0 k) 1).val
  rw [hb0, hb1, e0, e1]
  omega

/-- The kernel's result at an index. -/
theorem value (R : Fin 32768) (j : Fin 1024) :
    ((dats m 0 c).arrAt 6 cfg0.N : Vec Ideal S32768x1024 .f32) (ix2 R j)
      = block (fun k => m ((c : Thread nD τ).loc main_arg0) (ix2 R k)) (fun k f => m ((c : Thread nD τ).loc main_arg1) (ix2 k f))
          (fun k f => m ((c : Thread nD τ).loc main_arg2) (ix2 k f)) (fun f k => m ((c : Thread nD τ).loc main_arg3) (ix2 f k))
          (fun k => m ((c : Thread nD τ).loc main_arg4) (ix1 k)) (fun k => m ((c : Thread nD τ).loc main_arg5) (ix1 k)) j := by
  have hR := R.isLt
  obtain ⟨t, ht⟩ : ∃ t : Fin cfg0.N, t.val = R.val / 512 := ⟨⟨_, lt_of_lt_of_eq (by omega) N_0.symm⟩, rfl⟩
  obtain ⟨r, hr⟩ : ∃ r : Fin 512, r.val = R.val % 512 := ⟨⟨_, by omega⟩, rfl⟩
  have hRr : R.val = 512 * t.val + r.val := by omega
  obtain ⟨-, -, -, -, -, -, -, -, -, -, -, -, e0, e1⟩ := point_facts t
  have hi : ((cfg0.win 6).blk t).view.emb (ix2 r j) = ix2 R j := funext fun a => Fin.ext (by
    match a with
    | ⟨0, _⟩ => show win0_6.index t (0 : Fin 2) * 512 + 1 * r.val = R.val; omega
    | ⟨1, _⟩ => show win0_6.index t (1 : Fin 2) * 1024 + 1 * j.val = j.val; omega)
  have hb : ((dats m 0 c).arrAt 6 cfg0.N) (((cfg0.win 6).blk t).view.emb (ix2 r j)) = (dats m 0 c).flushed 6 t (ix2 r j) :=
    congrFun (blocks6 m c t (flush0_6 t)) (ix2 r j)
  rw [hi, flushed6] at hb
  refine hb.trans ?_
  refine Eq.trans (show _ = out0_6 (iblk m c 0 t) (iblk m c 1 t) (iblk m c 2 t) (iblk m c 3 t) (iblk m c 4 t) (iblk m c 5 t) (ix2 r j) from rfl) ?_
  rw [out_apply]
  simp only [rows_block m c t r _ R hRr, gate_block, up_block, down_block, scale_block, shift_block]

end Cert.Kernel3Ideal.Ffn

end
-- ==== Proof.OutPart.lean ====
/- The attention's output, merged with the recurrent layer's and normalised, on a row of extended reals. -/
module

public import proofs.«01_k».proof.Proof.FeedForward

@[expose] public section

noncomputable section

namespace Cert.Ffn

open Idealize.ShloMosaic

/-- Column `c` of the attention's heads side by side: head `c / 64`, its value column `c % 64`. -/
def heads (o : Fin 1024 → EReal) (w : Fin 128 → Fin 8 → Fin 64 → EReal) (c : Fin 512) : EReal :=
  ∑ k : Fin 128, o ⟨128 * (c.val / 64) + k.val, by omega⟩ * w k ⟨c.val / 64, by omega⟩ ⟨c.val % 64, by omega⟩

/-- Column `j` of both layers' outputs multiplied into the model's width. -/
def merged (o : Fin 1024 → EReal) (y : Fin 512 → EReal) (w : Fin 128 → Fin 8 → Fin 64 → EReal) (wo : Fin 1024 → Fin 1024 → EReal) (j : Fin 1024) : EReal :=
  (∑ c : Fin 512, heads o w c * wo ⟨c.val, by omega⟩ j) + ∑ c : Fin 512, y c * wo ⟨512 + c.val, by omega⟩ j

/-- The residual row scaled and added to the merged outputs. -/
def joined (x o : Fin 1024 → EReal) (y : Fin 512 → EReal) (w : Fin 128 → Fin 8 → Fin 64 → EReal) (wo : Fin 1024 → Fin 1024 → EReal) (j : Fin 1024) : EReal :=
  word 0x3F9837F0#32 * x j + merged o y w wo j

/-- A pair of heads with zeros off the diagonal, multiplied as one matrix, is the heads one by one. -/
theorem heads_pair (o : Fin 1024 → EReal) (w : Fin 128 → Fin 8 → Fin 64 → EReal) (c : Fin 512) :
    ∑ k : Fin 256, o ⟨256 * (c.val / 128) + k.val, by omega⟩
        * ((if k.val / 128 = c.val % 128 / 64 then 1 else 0)
            * w ⟨k.val % 128, by omega⟩ ⟨2 * (c.val / 128) + k.val / 128, by omega⟩ ⟨c.val % 64, by omega⟩)
      = heads o w c := by
  rw [Fin.sum_univ_two_halves 128 128 (by norm_num)]
  unfold heads
  rcases (by omega : c.val % 128 / 64 = 0 ∨ c.val % 128 / 64 = 1) with h | h
  · rw [Finset.sum_eq_zero (s := Finset.univ) (f := fun k : Fin 128 => o ⟨256 * (c.val / 128) + (128 + k.val), by omega⟩ * _) fun k _ => by
      rw [if_neg (by show ¬ (128 + k.val) / 128 = _; omega), zero_mul, mul_zero], add_zero]
    refine Finset.sum_congr rfl fun k _ => ?_
    rw [if_pos (by show k.val / 128 = _; omega), one_mul]
    refine congrArg₂ (· * ·) (congrArg o ?_) (congrFun (congrArg₂ w ?_ ?_) _)
    · exact Fin.ext (by show 256 * (c.val / 128) + k.val = 128 * (c.val / 64) + k.val; omega)
    · exact (Fin.ext (by show k.val % 128 = k.val; omega))
    · exact (Fin.ext (by show 2 * (c.val / 128) + k.val / 128 = c.val / 64; omega))
  · rw [Finset.sum_eq_zero (s := Finset.univ) (f := fun k : Fin 128 => o ⟨256 * (c.val / 128) + k.val, by omega⟩ * _) fun k _ => by
      rw [if_neg (by show ¬ k.val / 128 = _; omega), zero_mul, mul_zero], zero_add]
    refine Finset.sum_congr rfl fun k _ => ?_
    rw [if_pos (by show (128 + k.val) / 128 = _; omega), one_mul]
    refine congrArg₂ (· * ·) (congrArg o ?_) (congrFun (congrArg₂ w ?_ ?_) _)
    · exact Fin.ext (by show 256 * (c.val / 128) + (128 + k.val) = 128 * (c.val / 64) + k.val; omega)
    · exact (Fin.ext (by show (128 + k.val) % 128 = k.val; omega))
    · exact (Fin.ext (by show 2 * (c.val / 128) + (128 + k.val) / 128 = c.val / 64; omega))

end Cert.Ffn

end
-- ==== Proof.OutRef.lean ====
/- The output part's plain reference read at an index. -/
module

public import proofs.«01_k».proof.Proof.Gen.Reference2Ideal.Read
public import proofs.«01_k».proof.Proof.OutPart
public import Idealize.ShloMosaic.Lib.Pipeline.Value

@[expose] public section

noncomputable section

namespace Cert.Reference2Ideal.Out

open Idealize.ShloMosaic Cert.Reference2Ideal Cert.Reference2Ideal.Gen Cert.Reference2Ideal.Read Cert.Ffn

variable (x0 : (⟨S32768x1024, .f32⟩ : BufTy).Contents (Elt Ideal)) (x1 : (⟨S32768x1024, .bf16⟩ : BufTy).Contents (Elt Ideal))
  (x2 : (⟨S32768x512, .bf16⟩ : BufTy).Contents (Elt Ideal)) (x3 : (⟨S128x8x64, .f32⟩ : BufTy).Contents (Elt Ideal))
  (x4 : (⟨S1024x1024, .f32⟩ : BufTy).Contents (Elt Ideal)) (x5 x6 : (⟨S1024, .f32⟩ : BufTy).Contents (Elt Ideal))
  (x7 x8 : (⟨S1024x2816, .f32⟩ : BufTy).Contents (Elt Ideal))
  (x9 : (⟨S2816x1024, .f32⟩ : BufTy).Contents (Elt Ideal)) (x10 x11 : (⟨S1024, .f32⟩ : BufTy).Contents (Elt Ideal))

/-- A row of an array. -/
abbrev row {a b : ℕ} (w : (⟨2, ![a, b]⟩ : Shape).Idx → EReal) (r : Fin a) : Fin b → EReal := fun k => w (ix2 r k)

/-- A matrix by its two indices. -/
abbrev mat {a b : ℕ} (w : (⟨2, ![a, b]⟩ : Shape).Idx → EReal) : Fin a → Fin b → EReal := fun k l => w (ix2 k l)

/-- An array by its three indices. -/
abbrev cube {a b d : ℕ} (w : (⟨3, ![a, b, d]⟩ : Shape).Idx → EReal) : Fin a → Fin b → Fin d → EReal := fun k l n => w (ix3 k l n)

/-- A vector by its index. -/
abbrev vec {a : ℕ} (w : (⟨1, ![a]⟩ : Shape).Idx → EReal) : Fin a → EReal := fun k => w (ix1 k)

/-- A row before the first normalisation. -/
abbrev pre (r : Fin 32768) : Fin 1024 → EReal := joined (row x0 r) (row x1 r) (row x2 r) (cube x3) (mat x4)

/-- A row after the first normalisation. -/
abbrev mid (r : Fin 32768) : Fin 1024 → EReal := norm (pre x0 x1 x2 x3 x4 r) (vec x5) (vec x6)

/-- The heads side by side. -/
theorem heads_apply (r : Fin 32768) (c : Fin 512) :
    val_main_v4 (F := Ideal) x1 x3 (ix2 r c) = heads (row x1 r) (cube x3) c := by
  rw [val_main_v4_apply, val_main_v3_apply, val_main_v2_apply]
  unfold heads
  have hc := c.isLt
  have hr := r.isLt
  refine Finset.sum_congr rfl fun k _ => ?_
  have hk := k.isLt
  rw [val_main_v1_apply, val_main_v0_apply, mul_comm]
  refine congrArg₂ (· * ·) (congrArg x1 ?_) (congrArg x3 ?_)
  · funext a
    refine Fin.ext ?_
    match a with
    | ⟨0, _⟩ => show ((((r.val * 512 + c.val) / 512) * 8 + ((r.val * 512 + c.val) / 64 % 8)) * 128 + k.val) / 1024 = r.val; omega
    | ⟨1, _⟩ => show ((((r.val * 512 + c.val) / 512) * 8 + ((r.val * 512 + c.val) / 64 % 8)) * 128 + k.val) % 1024 = 128 * (c.val / 64) + k.val; omega
  · funext a
    refine Fin.ext ?_
    match a with
    | ⟨0, _⟩ => rfl
    | ⟨1, _⟩ => show (r.val * 512 + c.val) / 64 % 8 = c.val / 64; omega
    | ⟨2, _⟩ => show (r.val * 512 + c.val) % 64 = c.val % 64; omega

/-- Both layers' outputs multiplied into the model's width. -/
theorem merged_apply (r : Fin 32768) (j : Fin 1024) :
    val_main_v7 (F := Ideal) x1 x2 x3 x4 (ix2 r j) = merged (row x1 r) (row x2 r) (cube x3) (mat x4) j := by
  rw [val_main_v7_apply, Fin.sum_univ_two_halves 512 512 (by norm_num)]
  unfold merged
  refine congrArg₂ (· + ·) (Finset.sum_congr rfl fun c _ => congrArg₂ (· * ·) ?_ (congrArg x4 ?_)) (Finset.sum_congr rfl fun c _ => congrArg₂ (· * ·) ?_ (congrArg x4 ?_))
  · unfold val_main_v6
    refine (concatenate_pair_apply_left (t := S32768x1024) (s₁ := S32768x512) (s₂ := S32768x512) (1 : Fin 2) (val_main_v4 x1 x3) (val_main_v5 x2)
      concatenates_S32768x512_S32768x512_S32768x1024_d1 _ rfl (ix2 r c) fun b => ?_).trans (heads_apply ..)
    match b with | ⟨0, _⟩ => rfl | ⟨1, _⟩ => rfl
  · funext a; match a with | ⟨0, _⟩ => rfl | ⟨1, _⟩ => rfl
  · unfold val_main_v6
    refine (concatenate_pair_apply_right (t := S32768x1024) (s₁ := S32768x512) (s₂ := S32768x512) (1 : Fin 2) (val_main_v4 x1 x3) (val_main_v5 x2)
      concatenates_S32768x512_S32768x512_S32768x1024_d1 _ rfl rfl (ix2 r c) (fun b hb => ?_) ?_).trans (val_main_v5_apply ..)
    · match b with
      | ⟨0, _⟩ => rfl
      | ⟨1, _⟩ => exact absurd rfl hb
    · show c.val + 512 = 512 + c.val; omega
  · funext a; match a with | ⟨0, _⟩ => rfl | ⟨1, _⟩ => rfl

/-- The row before the first normalisation. -/
theorem pre_apply (r : Fin 32768) (j : Fin 1024) : val_main_v10 (F := Ideal) x0 x1 x2 x3 x4 (ix2 r j) = pre x0 x1 x2 x3 x4 r j := by
  rw [val_main_v10_apply, val_main_v9_apply, val_main_v8_apply, val_main_cst_apply, merged_apply]
  rfl

/-- Its mean. -/
theorem pre_mean_apply (i : S32768x1.Idx) (r : Fin 32768) (h : idx_main_v12 i = ix1 r) :
    val_main_v14 (F := Ideal) x0 x1 x2 x3 x4 i = mean (pre x0 x1 x2 x3 x4 r) := by
  rw [val_main_v14_apply, val_main_v12_apply, h, val_main_v11_apply, val_main_v13_apply, val_main_cst_0_apply, val_main_cst_1_apply]
  have e : ∀ k, idx_main_v11 (ix1 r) k = ix2 r k := fun k => by funext a; match a with | ⟨0, _⟩ => rfl | ⟨1, _⟩ => rfl
  simp only [e, pre_apply]
  rw [show (FloatOps.ofBits (F := Ideal) FTy.f32 0x00000000#32 : EReal) = 0 from word_zero, zero_add]
  rfl

/-- Its mean of squared deviations. -/
theorem pre_var_apply (r : Fin 32768) (i : S32768x1.Idx) (h : idx_main_v19 i = ix1 r) :
    val_main_v21 (F := Ideal) x0 x1 x2 x3 x4 i
      = mean (fun k => (pre x0 x1 x2 x3 x4 r k - mean (pre x0 x1 x2 x3 x4 r)) * (pre x0 x1 x2 x3 x4 r k - mean (pre x0 x1 x2 x3 x4 r))) := by
  rw [val_main_v21_apply, val_main_v19_apply, h, val_main_v18_apply, val_main_v20_apply, val_main_cst_2_apply, val_main_cst_3_apply]
  have e : ∀ k, val_main_v17 (F := Ideal) x0 x1 x2 x3 x4 (idx_main_v18 (ix1 r) k)
      = (pre x0 x1 x2 x3 x4 r k - mean (pre x0 x1 x2 x3 x4 r)) * (pre x0 x1 x2 x3 x4 r k - mean (pre x0 x1 x2 x3 x4 r)) := fun k => by
    have e1 : idx_main_v18 (ix1 r) k = ix2 r k := by funext a; match a with | ⟨0, _⟩ => rfl | ⟨1, _⟩ => rfl
    rw [e1, val_main_v17_apply, val_main_v16_apply, val_main_v15_apply, pre_apply,
      pre_mean_apply x0 x1 x2 x3 x4 (idx_main_v15 (ix2 r k)) r (by funext a; match a with | ⟨0, _⟩ => rfl)]
    rfl
  simp only [e]
  rw [show (FloatOps.ofBits (F := Ideal) FTy.f32 0x00000000#32 : EReal) = 0 from word_zero, zero_add]
  rfl

/-- The row after the first normalisation. -/
theorem mid_apply (r : Fin 32768) (j : Fin 1024) :
    val_main_v34 (F := Ideal) x0 x1 x2 x3 x4 x5 x6 (ix2 r j) = mid x0 x1 x2 x3 x4 x5 x6 r j := by
  have e5 : idx_main_v29 (idx_main_v30 (ix2 r j)) = ix1 j := by funext a; match a with | ⟨0, _⟩ => rfl
  have e6 : idx_main_v32 (idx_main_v33 (ix2 r j)) = ix1 j := by funext a; match a with | ⟨0, _⟩ => rfl
  rw [val_main_v34_apply, val_main_v31_apply, val_main_v28_apply, val_main_v23_apply, val_main_v22_apply, val_main_v27_apply, val_main_v26_apply,
    val_main_v25_apply, val_main_v24_apply, val_main_cst_4_apply, val_main_v30_apply, val_main_v29_apply, val_main_v33_apply, val_main_v32_apply, e5, e6,
    pre_apply, pre_mean_apply x0 x1 x2 x3 x4 (idx_main_v22 (ix2 r j)) r (by funext a; match a with | ⟨0, _⟩ => rfl),
    pre_var_apply x0 x1 x2 x3 x4 r (idx_main_v27 (ix2 r j)) (by funext a; match a with | ⟨0, _⟩ => rfl)]
  rfl

/-- A gate before its logistic. -/
theorem gate_apply (r : Fin 32768) (f : Fin 2816) :
    val_main_v37 (F := Ideal) x0 x1 x2 x3 x4 x5 x6 x7 (ix2 r f) = ∑ k, mid x0 x1 x2 x3 x4 x5 x6 r k * mat x7 k f := by
  rw [val_main_v37_apply]
  refine Finset.sum_congr rfl fun k _ => ?_
  have e0 : lidx_main_v37 (ix2 r f) k = ix2 r k := by funext a; match a with | ⟨0, _⟩ => rfl | ⟨1, _⟩ => rfl
  have e1 : ridx_main_v37 (ix2 r f) k = ix2 k f := by funext a; match a with | ⟨0, _⟩ => rfl | ⟨1, _⟩ => rfl
  rw [e0, e1, mid_apply]

/-- The factor a gate multiplies. -/
theorem up_apply (r : Fin 32768) (f : Fin 2816) :
    val_main_v39 (F := Ideal) x0 x1 x2 x3 x4 x5 x6 x8 (ix2 r f) = ∑ k, mid x0 x1 x2 x3 x4 x5 x6 r k * mat x8 k f := by
  rw [val_main_v39_apply]
  refine Finset.sum_congr rfl fun k _ => ?_
  have e0 : lidx_main_v39 (ix2 r f) k = ix2 r k := by funext a; match a with | ⟨0, _⟩ => rfl | ⟨1, _⟩ => rfl
  have e1 : ridx_main_v39 (ix2 r f) k = ix2 k f := by funext a; match a with | ⟨0, _⟩ => rfl | ⟨1, _⟩ => rfl
  rw [e0, e1, mid_apply]

/-- A hidden column. -/
theorem hidden_apply (r : Fin 32768) (f : Fin 2816) :
    val_main_v40 (F := Ideal) x0 x1 x2 x3 x4 x5 x6 x7 x8 (ix2 r f) = hidden (mid x0 x1 x2 x3 x4 x5 x6 r) (mat x7) (mat x8) f := by
  rw [val_main_v40_apply, val_main_v38_apply, val_main_call0_v5_apply, val_main_call0_v4_apply, val_main_call0_cst_0_apply, val_main_call0_v3_apply,
    val_main_call0_v2_apply, val_main_call0_cst_apply, val_main_call0_v1_apply, val_main_call0_v0_apply, gate_apply, up_apply]
  rfl

/-- The feed-forward product. -/
theorem ffn_apply (r : Fin 32768) (j : Fin 1024) :
    val_main_v41 (F := Ideal) x0 x1 x2 x3 x4 x5 x6 x7 x8 x9 (ix2 r j) = ffn (mid x0 x1 x2 x3 x4 x5 x6 r) (mat x7) (mat x8) (mat x9) j := by
  rw [val_main_v41_apply]
  unfold ffn
  refine Finset.sum_congr rfl fun f _ => ?_
  have e0 : lidx_main_v41 (ix2 r j) f = ix2 r f := by funext a; match a with | ⟨0, _⟩ => rfl | ⟨1, _⟩ => rfl
  have e1 : ridx_main_v41 (ix2 r j) f = ix2 f j := by funext a; match a with | ⟨0, _⟩ => rfl | ⟨1, _⟩ => rfl
  rw [e0, e1, hidden_apply]

/-- A row before the second normalisation. -/
abbrev post (r : Fin 32768) : Fin 1024 → EReal := mixed (mid x0 x1 x2 x3 x4 x5 x6 r) (mat x7) (mat x8) (mat x9)

/-- The row before the second normalisation. -/
theorem post_apply (r : Fin 32768) (j : Fin 1024) :
    val_main_v44 (F := Ideal) x0 x1 x2 x3 x4 x5 x6 x7 x8 x9 (ix2 r j) = post x0 x1 x2 x3 x4 x5 x6 x7 x8 x9 r j := by
  rw [val_main_v44_apply, val_main_v36_apply, val_main_v35_apply, val_main_cst_5_apply, val_main_v43_apply, val_main_v42_apply, val_main_cst_6_apply,
    ffn_apply, mid_apply]
  rfl

/-- Its mean. -/
theorem post_mean_apply (i : S32768x1.Idx) (r : Fin 32768) (h : idx_main_v46 i = ix1 r) :
    val_main_v48 (F := Ideal) x0 x1 x2 x3 x4 x5 x6 x7 x8 x9 i = mean (post x0 x1 x2 x3 x4 x5 x6 x7 x8 x9 r) := by
  rw [val_main_v48_apply, val_main_v46_apply, h, val_main_v45_apply, val_main_v47_apply, val_main_cst_7_apply, val_main_cst_8_apply]
  have e : ∀ k, idx_main_v45 (ix1 r) k = ix2 r k := fun k => by funext a; match a with | ⟨0, _⟩ => rfl | ⟨1, _⟩ => rfl
  simp only [e, post_apply]
  rw [show (FloatOps.ofBits (F := Ideal) FTy.f32 0x00000000#32 : EReal) = 0 from word_zero, zero_add]
  rfl

/-- Its mean of squared deviations. -/
theorem post_var_apply (r : Fin 32768) (i : S32768x1.Idx) (h : idx_main_v53 i = ix1 r) :
    val_main_v55 (F := Ideal) x0 x1 x2 x3 x4 x5 x6 x7 x8 x9 i
      = mean (fun k => (post x0 x1 x2 x3 x4 x5 x6 x7 x8 x9 r k - mean (post x0 x1 x2 x3 x4 x5 x6 x7 x8 x9 r))
          * (post x0 x1 x2 x3 x4 x5 x6 x7 x8 x9 r k - mean (post x0 x1 x2 x3 x4 x5 x6 x7 x8 x9 r))) := by
  rw [val_main_v55_apply, val_main_v53_apply, h, val_main_v52_apply, val_main_v54_apply, val_main_cst_9_apply, val_main_cst_10_apply]
  have e : ∀ k, val_main_v51 (F := Ideal) x0 x1 x2 x3 x4 x5 x6 x7 x8 x9 (idx_main_v52 (ix1 r) k)
      = (post x0 x1 x2 x3 x4 x5 x6 x7 x8 x9 r k - mean (post x0 x1 x2 x3 x4 x5 x6 x7 x8 x9 r))
          * (post x0 x1 x2 x3 x4 x5 x6 x7 x8 x9 r k - mean (post x0 x1 x2 x3 x4 x5 x6 x7 x8 x9 r)) := fun k => by
    have e1 : idx_main_v52 (ix1 r) k = ix2 r k := by funext a; match a with | ⟨0, _⟩ => rfl | ⟨1, _⟩ => rfl
    rw [e1, val_main_v51_apply, val_main_v50_apply, val_main_v49_apply, post_apply,
      post_mean_apply x0 x1 x2 x3 x4 x5 x6 x7 x8 x9 (idx_main_v49 (ix2 r k)) r (by funext a; match a with | ⟨0, _⟩ => rfl)]
    rfl
  simp only [e]
  rw [show (FloatOps.ofBits (F := Ideal) FTy.f32 0x00000000#32 : EReal) = 0 from word_zero, zero_add]
  rfl

/-- The reference's result at an index. -/
theorem value (r : Fin 32768) (j : Fin 1024) :
    val_main_v68 (F := Ideal) x0 x1 x2 x3 x4 x5 x6 x7 x8 x9 x10 x11 (ix2 r j)
      = block (mid x0 x1 x2 x3 x4 x5 x6 r) (mat x7) (mat x8) (mat x9) (vec x10) (vec x11) j := by
  have e4 : idx_main_v63 (idx_main_v64 (ix2 r j)) = ix1 j := by funext a; match a with | ⟨0, _⟩ => rfl
  have e5 : idx_main_v66 (idx_main_v67 (ix2 r j)) = ix1 j := by funext a; match a with | ⟨0, _⟩ => rfl
  rw [val_main_v68_apply, val_main_v65_apply, val_main_v62_apply, val_main_v57_apply, val_main_v56_apply, val_main_v61_apply, val_main_v60_apply,
    val_main_v59_apply, val_main_v58_apply, val_main_cst_11_apply, val_main_v64_apply, val_main_v63_apply, val_main_v67_apply, val_main_v66_apply, e4, e5,
    post_apply, post_mean_apply x0 x1 x2 x3 x4 x5 x6 x7 x8 x9 (idx_main_v56 (ix2 r j)) r (by funext a; match a with | ⟨0, _⟩ => rfl),
    post_var_apply x0 x1 x2 x3 x4 x5 x6 x7 x8 x9 r (idx_main_v61 (ix2 r j)) (by funext a; match a with | ⟨0, _⟩ => rfl)]
  rfl

end Cert.Reference2Ideal.Out

end
-- ==== Proof.OutRow.lean ====
/- What a grid point of the output kernel computes: the heads a pair at a time, both layers' outputs merged, a
   normalisation, then the feed-forward part as in the first feed-forward kernel, read at an index. -/
module

public import proofs.«01_k».proof.Proof.Gen.Kernel2Ideal.Frame
public import proofs.«01_k».proof.Proof.FfnRow
public import proofs.«01_k».proof.Proof.OutPart

@[expose] public section

noncomputable section

namespace Cert.Kernel2Ideal.Out

open Idealize.ShloMosaic Idealize.ShloMosaic.Tactic Cert.Kernel2Ideal Cert.Kernel2Ideal.Gen Cert.Ffn
open Cert.Kernel3Ideal.Ffn (step cols rows acc ld_cols ld_rows acc_apply)

section
variable {F : FTy → Type} [FloatOps F]

/-- The scaled sum of a row and half its feed-forward product, less its mean. -/
def centred (x a : FVec F S512x1024 .f32) : FVec F S512x1024 .f32 :=
  have y : FVec F S512x1024 .f32 := addf (mulf (broadcast S512x1024 (Scalar.ofBits .f32 0x3F9837F0#32)) x) (mulf (broadcast S512x1024 (Scalar.ofBits .f32 0x3F000000#32)) a)
  have s : FVec F S512x1 .f32 := shapeCast S512x1 (multiReduction .add [1] S512 y 0x00000000#32 reduces_S512x1024_S512 (.inl rfl) rfl) shapeCasts_S512_S512x1
  subf y (broadcastTo S512x1024 (divf s (broadcast S512x1 (Scalar.ofBits .f32 0x44800000#32))) broadcasts_S512x1_S512x1024)

/-- The sum of a row's squares. -/
def squares (y : FVec F S512x1024 .f32) : FVec F S512 .f32 :=
  multiReduction .add [1] S512 (mulf y y) 0x00000000#32 reduces_S512x1024_S512 (.inl rfl) rfl

/-- The attention's columns of a pair of heads. -/
def pairCols (w : Vec F S512x1024 .bf16) (n : ℕ) : Vec F S512x256 .bf16 := fun y => w (ix2 (y 0) (Fin.ofNat 1024 (256 * n + (y 1).val)))

/-- The value weights of a pair of heads. -/
def pairMat (w : Vec F S4x256x128 .bf16) (n : Fin 4) : Vec F S1x256x128 .bf16 := fun y => w (ix3 n (y 1) (y 2))

theorem ld_pairCols (w : Vec F S512x1024 .bf16) (n : ℕ) (hn : n < 4) (o : ℕ) (ho : o = 256 * n)
    (inb : ∀ b, (![0, o] : Fin 2 → ℕ) b + (![512, 256] : Fin 2 → ℕ) b ≤ S512x1024.size b) :
    View.ld w (Rect.unit (s := S512x1024) ![0, o] ![512, 256] inb) = pairCols w n := by
  subst ho
  funext y
  refine congrArg w (funext fun a => Fin.ext ?_)
  have h1 : (y 1).val < 256 := (y 1).isLt
  match a with
  | ⟨0, _⟩ => show 0 + 1 * (y 0).val = (y 0).val; omega
  | ⟨1, _⟩ => show 256 * n + 1 * (y 1).val = (256 * n + (y 1).val) % 1024; omega

theorem ld_pairMat (w : Vec F S4x256x128 .bf16) (n : Fin 4) (o : ℕ) (ho : o = n.val)
    (inb : ∀ b, (![o, 0, 0] : Fin 3 → ℕ) b + (![1, 256, 128] : Fin 3 → ℕ) b ≤ S4x256x128.size b) :
    View.ld w (Rect.unit (s := S4x256x128) ![o, 0, 0] ![1, 256, 128] inb) = pairMat w n := by
  subst ho
  funext y
  refine congrArg w (funext fun a => Fin.ext ?_)
  have h0 : (y 0).val < 1 := (y 0).isLt
  match a with
  | ⟨0, _⟩ => show n.val + 1 * (y 0).val = n.val; omega
  | ⟨1, _⟩ => show 0 + 1 * (y 1).val = (y 1).val; omega
  | ⟨2, _⟩ => show 0 + 1 * (y 2).val = (y 2).val; omega

section
variable (v : FVec F S512x1024 .bf16) (x a z : FVec F S512x1024 .f32) (g g' u u' : Vec F S1024x256 .bf16) (d d' : Vec F S256x1024 .bf16)
  (s b : Vec F S1x1024 .f32)

theorem pay10_eq : k0_pay10 (k0_pay4 z x s b) k0_pay5 (k0_pay6 z x s b g) (k0_pay7 z x s b u) (k0_pay8 z x s b g) k0_pay9 d g' u' d'
    = step (k0_pay4 z x s b) (step (k0_pay4 z x s b) (broadcast S512x1024 (Scalar.ofBits .f32 0x00000000#32)) g u d) g' u' d' := by
  simp only [k0_pay10, k0_pay5, k0_pay6, k0_pay7, k0_pay8, k0_pay9, shapeCast_self]; rfl

theorem pay14_eq : k0_pay14 v a (k0_pay11 v g) (k0_pay12 v u) k0_pay13 d g' u' d' = step v (step v a g u d) g' u' d' := by
  simp only [k0_pay14, k0_pay11, k0_pay12, k0_pay13, shapeCast_self]; rfl

theorem pay17_eq : k0_pay17 v a (k0_pay15 v g) (k0_pay16 u) d g' u' d' = step v (step v a g u d) g' u' d' := by
  simp only [k0_pay17, k0_pay15, k0_pay16, shapeCast_self]; rfl

theorem pay19_eq : k0_pay19 v a (k0_pay18 v g) u d g' u' d' = step v (step v a g u d) g' u' d' := by
  simp only [k0_pay19, k0_pay18, shapeCast_self]; rfl

theorem pay20_eq : k0_pay20 v a g u d = step v a g u d := by
  simp only [k0_pay20, shapeCast_self]; rfl

theorem pay25_eq : k0_pay25 x v a (k0_pay21 v g u) (k0_pay22 d) (constant S512x1024 .f32 0x00000000#32) g' u' d'
    = centred x (step v (step v a g u d) g' u' d') := by
  simp only [k0_pay25, k0_pay21, k0_pay22, shapeCast_self]; rfl

theorem pay26_eq : k0_pay26 x v a (k0_pay21 v g u) (k0_pay22 d) (constant S512x1024 .f32 0x00000000#32) g' u' d'
    = squares (centred x (step v (step v a g u d) g' u' d')) := by
  simp only [k0_pay26, pay25_eq]; rfl

end

/-- Both layers' outputs merged, from a grid point's blocks. -/
def mergeRows (x1 : Vec F S512x1024 .bf16) (x2 : Vec F S512x512 .bf16) (x3 : Vec F S4x256x128 .bf16) (x4 x5 : Vec F S512x1024 .bf16) : FVec F S512x1024 .f32 :=
  k0_pay2 (pairCols x1 0) (pairMat x3 0) (pairCols x1 1) (pairMat x3 1) (pairCols x1 2) (pairMat x3 2) (pairCols x1 3) (pairMat x3 3) x4 x2 x5

set_option maxRecDepth 8192 in
/-- What a grid point leaves. -/
theorem out_eq (x0 : Vec F S512x1024 .f32) (x1 : Vec F S512x1024 .bf16) (x2 : Vec F S512x512 .bf16) (x3 : Vec F S4x256x128 .bf16)
    (x4 x5 : Vec F S512x1024 .bf16) (x6 x7 : Vec F S1x1024 .f32) (x8 x9 : Vec F S1024x2816 .bf16) (x10 : Vec F S2816x1024 .bf16) (x11 x12 : Vec F S1x1024 .f32) :
    out0_13 x0 x1 x2 x3 x4 x5 x6 x7 x8 x9 x10 x11 x12
      = k0_pay1 x11 x12 (centred (k0_pay3 (mergeRows x1 x2 x3 x4 x5) x0 x6 x7) (acc (k0_pay4 (mergeRows x1 x2 x3 x4 x5) x0 x6 x7) x8 x9 x10 11))
          (squares (centred (k0_pay3 (mergeRows x1 x2 x3 x4 x5) x0 x6 x7) (acc (k0_pay4 (mergeRows x1 x2 x3 x4 x5) x0 x6 x7) x8 x9 x10 11))) := by
  have e8 : ∀ {ε : EltTy} (x : Vec F S512x1024 ε), View.ld x r0_8 = x := fun x => View.ld_unit_zero (funext fun b => match b with | ⟨0, _⟩ => rfl | ⟨1, _⟩ => rfl) _ x
  have e9 : ∀ x : Vec F S512x512 .bf16, View.ld x r0_9 = x := fun x => View.ld_unit_zero (funext fun b => match b with | ⟨0, _⟩ => rfl | ⟨1, _⟩ => rfl) _ x
  have e10 : ∀ x : Vec F S1x1024 .f32, View.ld x r0_10 = x := fun x => View.ld_unit_zero (funext fun b => match b with | ⟨0, _⟩ => rfl | ⟨1, _⟩ => rfl) _ x
  have e27 : k0_pay27 x0 x1 x2 x3 x4 x5 x6 x7 x8 x9 x10 x11 x12 = mergeRows x1 x2 x3 x4 x5 := by
    unfold k0_pay27 mergeRows
    rw [e8, e8, e9, ld_pairCols x1 0 (by omega) _ rfl, ld_pairCols x1 1 (by omega) _ rfl, ld_pairCols x1 2 (by omega) _ rfl, ld_pairCols x1 3 (by omega) _ rfl,
      ld_pairMat x3 0 0 rfl, ld_pairMat x3 1 1 rfl, ld_pairMat x3 2 2 rfl, ld_pairMat x3 3 3 rfl]
  have e23 : k0_pay23 x11 = x11 := by unfold k0_pay23; rw [shapeCast_self]
  have e24 : k0_pay24 x12 = x12 := by unfold k0_pay24; rw [shapeCast_self]
  unfold out0_13 k0_pay33 k0_pay32 k0_pay31 k0_pay30 k0_pay29 k0_pay28
  rw [e27, e8, e10, e10, e10, e10, e23, e24, pay10_eq, pay14_eq, pay17_eq, pay19_eq, pay20_eq, pay25_eq, pay26_eq]
  rw [ld_cols x8 0 (by omega) _ rfl, ld_cols x8 1 (by omega) _ rfl, ld_cols x8 2 (by omega) _ rfl, ld_cols x8 3 (by omega) _ rfl,
    ld_cols x8 4 (by omega) _ rfl, ld_cols x8 5 (by omega) _ rfl, ld_cols x8 6 (by omega) _ rfl, ld_cols x8 7 (by omega) _ rfl,
    ld_cols x8 8 (by omega) _ rfl, ld_cols x8 9 (by omega) _ rfl, ld_cols x8 10 (by omega) _ rfl]
  rw [ld_cols x9 0 (by omega) _ rfl, ld_cols x9 1 (by omega) _ rfl, ld_cols x9 2 (by omega) _ rfl, ld_cols x9 3 (by omega) _ rfl,
    ld_cols x9 4 (by omega) _ rfl, ld_cols x9 5 (by omega) _ rfl, ld_cols x9 6 (by omega) _ rfl, ld_cols x9 7 (by omega) _ rfl,
    ld_cols x9 8 (by omega) _ rfl, ld_cols x9 9 (by omega) _ rfl, ld_cols x9 10 (by omega) _ rfl]
  rw [ld_rows x10 0 (by omega) _ rfl, ld_rows x10 1 (by omega) _ rfl, ld_rows x10 2 (by omega) _ rfl, ld_rows x10 3 (by omega) _ rfl,
    ld_rows x10 4 (by omega) _ rfl, ld_rows x10 5 (by omega) _ rfl, ld_rows x10 6 (by omega) _ rfl, ld_rows x10 7 (by omega) _ rfl,
    ld_rows x10 8 (by omega) _ rfl, ld_rows x10 9 (by omega) _ rfl, ld_rows x10 10 (by omega) _ rfl]
  exact View.canon_unit_zero (funext fun b => match b with | ⟨0, _⟩ => rfl | ⟨1, _⟩ => rfl) _ _

end

/-- The first normalisation read at an index. -/
theorem first_apply (a x : FVec Ideal S512x1024 .f32) (g b : Vec Ideal S1x1024 .f32) (r : Fin 512) (j : Fin 1024) :
    k0_pay3 a x g b (ix2 r j) = norm (fun k => word 0x3F9837F0#32 * x (ix2 r k) + a (ix2 r k)) (fun k => g (ix2 0 k)) (fun k => b (ix2 0 k)) j := by
  pointwise [k0_pay3]
  rfl

/-- The second normalisation read at an index. -/
theorem second_apply (x a : FVec Ideal S512x1024 .f32) (g b : Vec Ideal S1x1024 .f32) (r : Fin 512) (j : Fin 1024) :
    k0_pay1 g b (centred x a) (squares (centred x a)) (ix2 r j)
      = norm (fun k => word 0x3F9837F0#32 * x (ix2 r k) + word 0x3F000000#32 * a (ix2 r k)) (fun k => g (ix2 0 k)) (fun k => b (ix2 0 k)) j := by
  pointwise [k0_pay1, centred, squares]
  rfl

/-- The merged outputs read at an index. -/
theorem merge_apply (x1 : Vec Ideal S512x1024 .bf16) (x2 : Vec Ideal S512x512 .bf16) (x3 : Vec Ideal S4x256x128 .bf16) (x4 x5 : Vec Ideal S512x1024 .bf16)
    (r : Fin 512) (j : Fin 1024) :
    mergeRows x1 x2 x3 x4 x5 (ix2 r j)
      = (∑ c : Fin 512, (∑ k : Fin 256, x1 (ix2 r ⟨256 * (c.val / 128) + k.val, by omega⟩)
            * x3 (ix3 ⟨c.val / 128, by omega⟩ k ⟨c.val % 128, by omega⟩)) * x4 (ix2 c j)) + ∑ c : Fin 512, x2 (ix2 r c) * x5 (ix2 c j) := by
  pointwise [mergeRows, k0_pay2, dot_S512x256_S256x128_S512x128_1_0_0_1_n_n, dot_S512x512_S512x1024_S512x1024_1_0_0_1_n_n]
  have key : ∀ (c : Fin 512) (p : Fin 4) (q : Fin 128), c.val = 128 * p.val + q.val →
      ∑ k : Fin 256, pairCols x1 p.val (ix2 r k) * pairMat x3 p (ix3 0 k q)
        = ∑ k : Fin 256, x1 (ix2 r ⟨256 * (c.val / 128) + k.val, by omega⟩) * x3 (ix3 ⟨c.val / 128, by omega⟩ k ⟨c.val % 128, by omega⟩) := fun c p q h => by
    refine Finset.sum_congr rfl fun k _ => ?_
    have hk := k.isLt
    have hp := p.isLt
    have hq := q.isLt
    refine congrArg₂ (· * ·) (congrArg (fun l => x1 (ix2 r l)) (Fin.ext ?_)) (congrArg₂ (fun a b => x3 (ix3 a k b)) (Fin.ext ?_) (Fin.ext ?_))
    · show (256 * p.val + k.val) % 1024 = 256 * (c.val / 128) + k.val; omega
    · show p.val = c.val / 128; omega
    · show q.val = c.val % 128; omega
  refine congrArg (· + _) (Finset.sum_congr rfl fun c _ => congrArg (· * _) ?_)
  have hc := c.isLt
  by_cases h0 : c.val < 128
  · rw [dif_pos h0]
    exact key c 0 _ (by show c.val = 128 * 0 + c.val; omega)
  rw [dif_neg h0]
  by_cases h1 : c.val - 128 < 128
  · rw [dif_pos h1]
    exact key c 1 _ (by show c.val = 128 * 1 + (c.val - 128); omega)
  rw [dif_neg h1]
  by_cases h2 : c.val - 128 - 128 < 128
  · rw [dif_pos h2]
    exact key c 2 _ (by show c.val = 128 * 2 + (c.val - 128 - 128); omega)
  rw [dif_neg h2]
  exact key c 3 _ (by show c.val = 128 * 3 + (c.val - 128 - 128 - 128); omega)

/-- What a grid point leaves, read at an index. -/
theorem out_apply (x0 : Vec Ideal S512x1024 .f32) (x1 : Vec Ideal S512x1024 .bf16) (x2 : Vec Ideal S512x512 .bf16) (x3 : Vec Ideal S4x256x128 .bf16)
    (x4 x5 : Vec Ideal S512x1024 .bf16) (x6 x7 : Vec Ideal S1x1024 .f32) (x8 x9 : Vec Ideal S1024x2816 .bf16) (x10 : Vec Ideal S2816x1024 .bf16)
    (x11 x12 : Vec Ideal S1x1024 .f32) (r : Fin 512) (j : Fin 1024) :
    out0_13 x0 x1 x2 x3 x4 x5 x6 x7 x8 x9 x10 x11 x12 (ix2 r j)
      = block (norm (fun k => word 0x3F9837F0#32 * x0 (ix2 r k) + mergeRows x1 x2 x3 x4 x5 (ix2 r k)) (fun k => x6 (ix2 0 k)) (fun k => x7 (ix2 0 k)))
          (fun k f => x8 (ix2 k f)) (fun k f => x9 (ix2 k f)) (fun f l => x10 (ix2 f l)) (fun k => x11 (ix2 0 k)) (fun k => x12 (ix2 0 k)) j := by
  have e : (fun k => k0_pay4 (mergeRows x1 x2 x3 x4 x5) x0 x6 x7 (ix2 r k))
      = norm (fun k => word 0x3F9837F0#32 * x0 (ix2 r k) + mergeRows x1 x2 x3 x4 x5 (ix2 r k)) (fun k => x6 (ix2 0 k)) (fun k => x7 (ix2 0 k)) :=
    funext fun k => first_apply ..
  rw [out_eq, second_apply]
  simp only [acc_apply, first_apply]
  rw [e]
  rfl

end Cert.Kernel2Ideal.Out

end
-- ==== Proof.OutWeights.lean ====
/- The heads' value weights as the output kernel's call lays them out: four pairs, each a block-diagonal matrix. -/
module

public import proofs.«01_k».proof.Proof.Gen.Kernel2Ideal.Frame
public import Idealize.ShloMosaic.Lib.Pointwise

@[expose] public section

noncomputable section

namespace Cert.Kernel2Ideal.Out

open Idealize.ShloMosaic Idealize.ShloMosaic.Tactic Idealize.ShloMosaic.TcCoe Cert.Kernel2Ideal Cert.Kernel2Ideal.Gen

section
variable {F : FTy → Type} [FloatOps F]

/-- The two-by-two identity. -/
def eye : FVec F S2x2 .f32 :=
  uitofp .f32 (cmpi .eq (addi (iotaInDim S2x2 32 0) (broadcastInDim S2x2 ![] bcast_S_S2x2 (constantI S_ 32 0#32))) (iotaInDim S2x2 32 1))

/-- Two heads' weights on the diagonal. -/
def diag (w : FVec F S2x128x64 .f32) : FVec F S256x128 .f32 :=
  shapeCast S256x128 (mulf (broadcastInDim S2x128x2x64 ![0, 1, 2, 3] bcast_S2x1x2x1_S2x128x2x64_0_1_2_3 (broadcastInDim S2x1x2x1 ![0, 2] bcast_S2x2_S2x1x2x1_0_2 eye))
    (broadcastInDim S2x128x2x64 ![0, 1, 2, 3] bcast_S2x128x1x64_S2x128x2x64_0_1_2_3 (broadcastInDim S2x128x1x64 ![0, 1, 3] bcast_S2x128x64_S2x128x1x64_0_1_3 w)))
    shapeCasts_S2x128x2x64_S256x128

/-- The weights by pairs of heads. -/
def pairs (w : FVec F S128x8x64 .f32) : FVec F S4x2x128x64 .f32 :=
  shapeCast S4x2x128x64 (transpose S8x128x64 [1, 0, 2] w transposes_S128x8x64_S8x128x64_1_0_2) shapeCasts_S8x128x64_S4x2x128x64

/-- A pair's matrix. -/
def layer (w : FVec F S1x2x128x64 .f32) : FVec F S1x256x128 .f32 :=
  broadcastInDim S1x256x128 ![1, 2] bcast_S256x128_S1x256x128_1_2 (diag (shapeCast S2x128x64 w shapeCasts_S1x2x128x64_S2x128x64))

/-- The four matrices. -/
def stack (w : FVec F S128x8x64 .f32) : FVec F S4x256x128 .bf16 :=
  truncf .bf16 (concatenate S4x256x128 0 [⟨S1x256x128, layer (extractStridedSlice S1x2x128x64 ![0, 0, 0, 0] (pairs w) slices_S4x2x128x64_S1x2x128x64_0_0_0_0)⟩,
    ⟨S1x256x128, layer (extractStridedSlice S1x2x128x64 ![1, 0, 0, 0] (pairs w) slices_S4x2x128x64_S1x2x128x64_1_0_0_0)⟩,
    ⟨S1x256x128, layer (extractStridedSlice S1x2x128x64 ![2, 0, 0, 0] (pairs w) slices_S4x2x128x64_S1x2x128x64_2_0_0_0)⟩,
    ⟨S1x256x128, layer (extractStridedSlice S1x2x128x64 ![3, 0, 0, 0] (pairs w) slices_S4x2x128x64_S1x2x128x64_3_0_0_0)⟩]
    concatenates_S1x256x128_S1x256x128_S1x256x128_S1x256x128_S4x256x128_d0) bitsLt_bf16_f32

end

/-- The identity read at an index. -/
theorem eye_apply (a b : Fin 2) : eye (F := Ideal) (ix2 a b) = if a.val = b.val then 1 else 0 := by
  have h1 : ∀ x : BitVec 1, FloatOps.uitofp (F := Ideal) FTy.f32 x = ((x.toNat : ℝ) : EReal) := fun _ => rfl
  have h2 : eye (F := Ideal) (ix2 a b) = FloatOps.uitofp (F := Ideal) FTy.f32 (IntOp.cmpi CmpIPredicate.eq (IntOp.addi (BitVec.ofNat 32 a.val) 0#32) (BitVec.ofNat 32 b.val)) := rfl
  rw [h2, h1]
  match a, b with
  | ⟨0, _⟩, ⟨0, _⟩ => rw [show (IntOp.cmpi CmpIPredicate.eq (IntOp.addi (BitVec.ofNat 32 0) 0#32) (BitVec.ofNat 32 0)).toNat = 1 by decide]; simp
  | ⟨0, _⟩, ⟨1, _⟩ => rw [show (IntOp.cmpi CmpIPredicate.eq (IntOp.addi (BitVec.ofNat 32 0) 0#32) (BitVec.ofNat 32 1)).toNat = 0 by decide]; simp
  | ⟨1, _⟩, ⟨0, _⟩ => rw [show (IntOp.cmpi CmpIPredicate.eq (IntOp.addi (BitVec.ofNat 32 1) 0#32) (BitVec.ofNat 32 0)).toNat = 0 by decide]; simp
  | ⟨1, _⟩, ⟨1, _⟩ => rw [show (IntOp.cmpi CmpIPredicate.eq (IntOp.addi (BitVec.ofNat 32 1) 0#32) (BitVec.ofNat 32 1)).toNat = 1 by decide]; simp

/-- A pair's matrix read at an index. -/
theorem layer_apply (w : FVec Ideal S1x2x128x64 .f32) (i : Fin 1) (k : Fin 256) (l : Fin 128) :
    layer w (ix3 i k l) = (if k.val / 128 = l.val / 64 then 1 else 0) * w (ix4 0 ⟨k.val / 128, by omega⟩ ⟨k.val % 128, by omega⟩ ⟨l.val % 64, by omega⟩) := by
  pointwise [layer, diag]
  rw [eye_apply]

/-- A pair's weights read at an index. -/
theorem pairs_apply (w : FVec Ideal S128x8x64 .f32) (p : Fin 4) (a : Fin 2) (k : Fin 128) (l : Fin 64) :
    pairs w (ix4 p a k l) = w (ix3 k ⟨2 * p.val + a.val, by omega⟩ l) := by
  pointwise [pairs]
  exact congrArg (fun b => w (ix3 k b l)) (Fin.ext (by show p.val * 2 + a.val = 2 * p.val + a.val; omega))

/-- The four matrices read at an index. -/
theorem stack_apply (w : FVec Ideal S128x8x64 .f32) (p : Fin 4) (k : Fin 256) (l : Fin 128) :
    stack w (ix3 p k l) = (if k.val / 128 = l.val / 64 then 1 else 0)
      * w (ix3 ⟨k.val % 128, by omega⟩ ⟨2 * p.val + k.val / 128, by omega⟩ ⟨l.val % 64, by omega⟩) := by
  have s0 : ∀ (a : Fin 2) (i : Fin 128) (j : Fin 64), extractStridedSlice S1x2x128x64 ![0, 0, 0, 0] (pairs w) slices_S4x2x128x64_S1x2x128x64_0_0_0_0 (ix4 0 a i j)
      = w (ix3 i ⟨2 * 0 + a.val, by omega⟩ j) := fun a i j => by pointwise []; exact (pairs_apply w 0 a i j).trans (congrArg (fun b => w (ix3 i b j)) (Fin.ext (by show 2 * 0 + a.val = a.val; omega)))
  have s1 : ∀ (a : Fin 2) (i : Fin 128) (j : Fin 64), extractStridedSlice S1x2x128x64 ![1, 0, 0, 0] (pairs w) slices_S4x2x128x64_S1x2x128x64_1_0_0_0 (ix4 0 a i j)
      = w (ix3 i ⟨2 * 1 + a.val, by omega⟩ j) := fun a i j => by pointwise []; exact pairs_apply w 1 a i j
  have s2 : ∀ (a : Fin 2) (i : Fin 128) (j : Fin 64), extractStridedSlice S1x2x128x64 ![2, 0, 0, 0] (pairs w) slices_S4x2x128x64_S1x2x128x64_2_0_0_0 (ix4 0 a i j)
      = w (ix3 i ⟨2 * 2 + a.val, by omega⟩ j) := fun a i j => by pointwise []; exact pairs_apply w 2 a i j
  have s3 : ∀ (a : Fin 2) (i : Fin 128) (j : Fin 64), extractStridedSlice S1x2x128x64 ![3, 0, 0, 0] (pairs w) slices_S4x2x128x64_S1x2x128x64_3_0_0_0 (ix4 0 a i j)
      = w (ix3 i ⟨2 * 3 + a.val, by omega⟩ j) := fun a i j => by pointwise []; exact pairs_apply w 3 a i j
  pointwise [stack]
  simp only [layer_apply, s0, s1, s2, s3]
  match p with
  | ⟨0, _⟩ => rfl
  | ⟨1, _⟩ => rfl
  | ⟨2, _⟩ => rfl
  | ⟨3, _⟩ => rfl

end Cert.Kernel2Ideal.Out

end
-- ==== Proof.OutHost.lean ====
/- What the output kernel's call hands its grid: the arguments cast, reshaped, cut and laid out. -/
module

public import proofs.«01_k».proof.Proof.OutWeights

@[expose] public section

noncomputable section

namespace Cert.Kernel2Ideal.Out

open Idealize.ShloMosaic Idealize.ShloMosaic.TcCoe Cert.Kernel2Ideal Cert.Kernel2Ideal.Gen

variable {F : FTy → Type} [FloatOps F]

variable (m : (ℓ : Loc nD τ sig) → Buf (Elt F) ℓ) (c : Dev nD)

set_option maxRecDepth 65536 in
set_option maxHeartbeats 4000000 in
/-- The call's weights are these. -/
theorem weights_eq : V m c main_v63 = stack (m ((c : Thread nD τ).loc main_arg3)) := rfl

set_option maxRecDepth 65536 in
set_option maxHeartbeats 4000000 in
theorem upper_eq : V m c main_v65 = truncf .bf16 (extractStridedSlice S512x1024 ![0, 0] (m ((c : Thread nD τ).loc main_arg4) : FVec F S1024x1024 .f32) slices_S1024x1024_S512x1024_0_0) bitsLt_bf16_f32 := rfl

set_option maxRecDepth 65536 in
set_option maxHeartbeats 4000000 in
theorem lower_eq : V m c main_v67 = truncf .bf16 (extractStridedSlice S512x1024 ![512, 0] (m ((c : Thread nD τ).loc main_arg4) : FVec F S1024x1024 .f32) slices_S1024x1024_S512x1024_512_0) bitsLt_bf16_f32 := rfl

set_option maxRecDepth 65536 in
set_option maxHeartbeats 4000000 in
theorem scale1_eq : V m c main_v68 = shapeCast S1x1024 (m ((c : Thread nD τ).loc main_arg5)) shapeCasts_S1024_S1x1024 := rfl

set_option maxRecDepth 65536 in
set_option maxHeartbeats 4000000 in
theorem shift1_eq : V m c main_v69 = shapeCast S1x1024 (m ((c : Thread nD τ).loc main_arg6)) shapeCasts_S1024_S1x1024 := rfl

set_option maxRecDepth 65536 in
set_option maxHeartbeats 4000000 in
theorem gate_eq : V m c main_v70 = truncf .bf16 (m ((c : Thread nD τ).loc main_arg7) : FVec F S1024x2816 .f32) bitsLt_bf16_f32 := rfl

set_option maxRecDepth 65536 in
set_option maxHeartbeats 4000000 in
theorem up_eq : V m c main_v71 = truncf .bf16 (m ((c : Thread nD τ).loc main_arg8) : FVec F S1024x2816 .f32) bitsLt_bf16_f32 := rfl

set_option maxRecDepth 65536 in
set_option maxHeartbeats 4000000 in
theorem down_eq : V m c main_v72 = truncf .bf16 (m ((c : Thread nD τ).loc main_arg9) : FVec F S2816x1024 .f32) bitsLt_bf16_f32 := rfl

set_option maxRecDepth 65536 in
set_option maxHeartbeats 4000000 in
theorem scale2_eq : V m c main_v73 = shapeCast S1x1024 (m ((c : Thread nD τ).loc main_arg10)) shapeCasts_S1024_S1x1024 := rfl

set_option maxRecDepth 65536 in
set_option maxHeartbeats 4000000 in
theorem shift2_eq : V m c main_v74 = shapeCast S1x1024 (m ((c : Thread nD τ).loc main_arg11)) shapeCasts_S1024_S1x1024 := rfl

end Cert.Kernel2Ideal.Out

end
-- ==== Proof.OutValues.lean ====
/- The output kernel's result array as the merged, normalised and fed-forward rows of its arguments. -/
module

public import proofs.«01_k».proof.Proof.OutRow
public import proofs.«01_k».proof.Proof.OutHost
public import Idealize.ShloMosaic.Lib.Pipeline.Value

@[expose] public section

noncomputable section

namespace Cert.Kernel2Ideal.Out

open Idealize.ShloMosaic Idealize.ShloMosaic.Tactic Idealize.ShloMosaic.TcCoe Idealize.SL.Sem Cert.Kernel2Ideal Cert.Kernel2Ideal.Gen Cert.Ffn

section
variable {F : FTy → Type} [FloatOps F]
variable (m : (ℓ : Loc nD τ sig) → Buf (Elt F) ℓ) (ρ : Dev nD → PrngReg)

/-- The run, with the result array named and the arguments kept. -/
theorem run : θ_run defs (onTc (τ := τ) (main (F := F))) ⟨m, fun _ => 0, ρ⟩ fun r => ∀ c : Dev nD,
      r.2.mem ((c : Thread nD τ).loc main_v75) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1 13,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

/-- Two points write different blocks. -/
theorem index_ne : ∀ t t' : Fin cfg0.N, win0_13.index t = win0_13.index t' → t = t' :=
  (by decide +kernel : ∀ t t' : Fin grid0.N, win0_13.index t = win0_13.index t' → t = t')

/-- A point's block of the final array is what the point left. -/
theorem block_eq (c : Dev nD) (t : Fin cfg0.N) :
    ((cfg0.win 13).blk t).view.read (Elt F) ((dats m 0 c).arrAt 13 cfg0.N)
      = (cfg0.win 13).cut (grid0.coords t) (out0_13 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t)) := by
  refine ((dats m 0 c).read_blk_arrAt_eq_flushed 13 (fun t t' _ _ hne => (cfg0.win 13).disjoint_blk fun h => hne (index_ne t t' h))
    cfg0.N t t.isLt (flush0_13 t)).trans ?_
  show (cfg0.win 13).cut (grid0.coords t) ((dats m 0 c).after 13 t) = _
  rw [after0_13]

end

/-- A grid point's blocks: rows move with the point, the rest does not. -/
theorem point_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0
    ∧ win0_3.index t (2 : Fin 3) = 0 ∧ win0_4.index t (0 : Fin 2) = 0
    ∧ win0_4.index t (1 : Fin 2) = 0 ∧ win0_5.index t (0 : Fin 2) = 0
    ∧ win0_5.index t (1 : Fin 2) = 0 ∧ win0_6.index t (0 : Fin 2) = 0
    ∧ win0_6.index t (1 : Fin 2) = 0 ∧ win0_7.index t (0 : Fin 2) = 0
    ∧ win0_7.index t (1 : Fin 2) = 0 ∧ win0_8.index t (0 : Fin 2) = 0
    ∧ win0_8.index t (1 : Fin 2) = 0 ∧ win0_9.index t (0 : Fin 2) = 0
    ∧ win0_9.index t (1 : Fin 2) = 0 ∧ win0_10.index t (0 : Fin 2) = 0
    ∧ win0_10.index t (1 : Fin 2) = 0 ∧ win0_11.index t (0 : Fin 2) = 0
    ∧ win0_11.index t (1 : Fin 2) = 0 ∧ win0_12.index t (0 : Fin 2) = 0
    ∧ win0_12.index t (1 : Fin 2) = 0 ∧ win0_13.index t (0 : Fin 2) = t.val
    ∧ win0_13.index t (1 : Fin 2) = 0 :=
  (by decide +kernel : ∀ t : Fin grid0.N, _)

theorem emb3 (t : Fin cfg0.N) (k : Fin 4) (l : Fin 256) (n : Fin 128) : ((cfg0.win 3).blk t).view.emb (ix3 k l n) = ix3 k l n := by
  obtain ⟨-, -, -, -, -, -, e0, e1, e2, -⟩ := point_facts t
  refine funext fun a => Fin.ext ?_
  match a with
  | ⟨0, _⟩ => show win0_3.index t (0 : Fin 3) * 4 + 1 * k.val = k.val; omega
  | ⟨1, _⟩ => show win0_3.index t (1 : Fin 3) * 256 + 1 * l.val = l.val; omega
  | ⟨2, _⟩ => show win0_3.index t (2 : Fin 3) * 128 + 1 * n.val = n.val; omega

theorem emb4 (t : Fin cfg0.N) (k : Fin 512) (l : Fin 1024) : ((cfg0.win 4).blk t).view.emb (ix2 k l) = ix2 k l := by
  obtain ⟨-, -, -, -, -, -, -, -, -, e0, e1, -⟩ := point_facts t
  refine funext fun a => Fin.ext ?_
  match a with
  | ⟨0, _⟩ => show win0_4.index t (0 : Fin 2) * 512 + 1 * k.val = k.val; omega
  | ⟨1, _⟩ => show win0_4.index t (1 : Fin 2) * 1024 + 1 * l.val = l.val; omega

theorem emb5 (t : Fin cfg0.N) (k : Fin 512) (l : Fin 1024) : ((cfg0.win 5).blk t).view.emb (ix2 k l) = ix2 k l := by
  obtain ⟨-, -, -, -, -, -, -, -, -, -, -, e0, e1, -⟩ := point_facts t
  refine funext fun a => Fin.ext ?_
  match a with
  | ⟨0, _⟩ => show win0_5.index t (0 : Fin 2) * 512 + 1 * k.val = k.val; omega
  | ⟨1, _⟩ => show win0_5.index t (1 : Fin 2) * 1024 + 1 * l.val = l.val; omega

theorem emb6 (t : Fin cfg0.N) (k : Fin 1) (l : Fin 1024) : ((cfg0.win 6).blk t).view.emb (ix2 k l) = ix2 k l := by
  obtain ⟨-, -, -, -, -, -, -, -, -, -, -, -, -, e0, e1, -⟩ := point_facts t
  refine funext fun a => Fin.ext ?_
  match a with
  | ⟨0, _⟩ => show win0_6.index t (0 : Fin 2) * 1 + 1 * k.val = k.val; omega
  | ⟨1, _⟩ => show win0_6.index t (1 : Fin 2) * 1024 + 1 * l.val = l.val; omega

theorem emb7 (t : Fin cfg0.N) (k : Fin 1) (l : Fin 1024) : ((cfg0.win 7).blk t).view.emb (ix2 k l) = ix2 k l := by
  obtain ⟨-, -, -, -, -, -, -, -, -, -, -, -, -, -, -, e0, e1, -⟩ := point_facts t
  refine funext fun a => Fin.ext ?_
  match a with
  | ⟨0, _⟩ => show win0_7.index t (0 : Fin 2) * 1 + 1 * k.val = k.val; omega
  | ⟨1, _⟩ => show win0_7.index t (1 : Fin 2) * 1024 + 1 * l.val = l.val; omega

theorem emb8 (t : Fin cfg0.N) (k : Fin 1024) (l : Fin 2816) : ((cfg0.win 8).blk t).view.emb (ix2 k l) = ix2 k l := by
  obtain ⟨-, -, -, -, -, -, -, -, -, -, -, -, -, -, -, -, -, e0, e1, -⟩ := point_facts t
  refine funext fun a => Fin.ext ?_
  match a with
  | ⟨0, _⟩ => show win0_8.index t (0 : Fin 2) * 1024 + 1 * k.val = k.val; omega
  | ⟨1, _⟩ => show win0_8.index t (1 : Fin 2) * 2816 + 1 * l.val = l.val; omega

theorem emb9 (t : Fin cfg0.N) (k : Fin 1024) (l : Fin 2816) : ((cfg0.win 9).blk t).view.emb (ix2 k l) = ix2 k l := by
  obtain ⟨-, -, -, -, -, -, -, -, -, -, -, -, -, -, -, -, -, -, -, e0, e1, -⟩ := point_facts t
  refine funext fun a => Fin.ext ?_
  match a with
  | ⟨0, _⟩ => show win0_9.index t (0 : Fin 2) * 1024 + 1 * k.val = k.val; omega
  | ⟨1, _⟩ => show win0_9.index t (1 : Fin 2) * 2816 + 1 * l.val = l.val; omega

theorem emb10 (t : Fin cfg0.N) (k : Fin 2816) (l : Fin 1024) : ((cfg0.win 10).blk t).view.emb (ix2 k l) = ix2 k l := by
  obtain ⟨-, -, -, -, -, -, -, -, -, -, -, -, -, -, -, -, -, -, -, -, -, e0, e1, -⟩ := point_facts t
  refine funext fun a => Fin.ext ?_
  match a with
  | ⟨0, _⟩ => show win0_10.index t (0 : Fin 2) * 2816 + 1 * k.val = k.val; omega
  | ⟨1, _⟩ => show win0_10.index t (1 : Fin 2) * 1024 + 1 * l.val = l.val; omega

theorem emb11 (t : Fin cfg0.N) (k : Fin 1) (l : Fin 1024) : ((cfg0.win 11).blk t).view.emb (ix2 k l) = ix2 k l := by
  obtain ⟨-, -, -, -, -, -, -, -, -, -, -, -, -, -, -, -, -, -, -, -, -, -, -, e0, e1, -⟩ := point_facts t
  refine funext fun a => Fin.ext ?_
  match a with
  | ⟨0, _⟩ => show win0_11.index t (0 : Fin 2) * 1 + 1 * k.val = k.val; omega
  | ⟨1, _⟩ => show win0_11.index t (1 : Fin 2) * 1024 + 1 * l.val = l.val; omega

theorem emb12 (t : Fin cfg0.N) (k : Fin 1) (l : Fin 1024) : ((cfg0.win 12).blk t).view.emb (ix2 k l) = ix2 k l := by
  obtain ⟨-, -, -, -, -, -, -, -, -, -, -, -, -, -, -, -, -, -, -, -, -, -, -, -, -, e0, e1, -⟩ := point_facts t
  refine funext fun a => Fin.ext ?_
  match a with
  | ⟨0, _⟩ => show win0_12.index t (0 : Fin 2) * 1 + 1 * k.val = k.val; omega
  | ⟨1, _⟩ => show win0_12.index t (1 : Fin 2) * 1024 + 1 * l.val = l.val; omega

theorem emb0 (t : Fin cfg0.N) (r : Fin 512) (k : Fin 1024) (R : Fin 32768) (hR : R.val = 512 * t.val + r.val) :
    ((cfg0.win 0).blk t).view.emb (ix2 r k) = ix2 R k := by
  obtain ⟨e0, e1, -⟩ := point_facts t
  refine funext fun a => Fin.ext ?_
  match a with
  | ⟨0, _⟩ => show win0_0.index t (0 : Fin 2) * 512 + 1 * r.val = R.val; omega
  | ⟨1, _⟩ => show win0_0.index t (1 : Fin 2) * 1024 + 1 * k.val = k.val; omega

theorem emb1 (t : Fin cfg0.N) (r : Fin 512) (k : Fin 1024) (R : Fin 32768) (hR : R.val = 512 * t.val + r.val) :
    ((cfg0.win 1).blk t).view.emb (ix2 r k) = ix2 R k := by
  obtain ⟨-, -, e0, e1, -⟩ := point_facts t
  refine funext fun a => Fin.ext ?_
  match a with
  | ⟨0, _⟩ => show win0_1.index t (0 : Fin 2) * 512 + 1 * r.val = R.val; omega
  | ⟨1, _⟩ => show win0_1.index t (1 : Fin 2) * 1024 + 1 * k.val = k.val; omega

theorem emb2 (t : Fin cfg0.N) (r : Fin 512) (k : Fin 512) (R : Fin 32768) (hR : R.val = 512 * t.val + r.val) :
    ((cfg0.win 2).blk t).view.emb (ix2 r k) = ix2 R k := by
  obtain ⟨-, -, -, -, e0, e1, -⟩ := point_facts t
  refine funext fun a => Fin.ext ?_
  match a with
  | ⟨0, _⟩ => show win0_2.index t (0 : Fin 2) * 512 + 1 * r.val = R.val; omega
  | ⟨1, _⟩ => show win0_2.index t (1 : Fin 2) * 512 + 1 * k.val = k.val; omega

theorem emb13 (t : Fin cfg0.N) (r : Fin 512) (k : Fin 1024) (R : Fin 32768) (hR : R.val = 512 * t.val + r.val) :
    ((cfg0.win 13).blk t).view.emb (ix2 r k) = ix2 R k := by
  obtain ⟨-, -, -, -, -, -, -, -, -, -, -, -, -, -, -, -, -, -, -, -, -, -, -, -, -, -, -, e0, e1⟩ := point_facts t
  refine funext fun a => Fin.ext ?_
  match a with
  | ⟨0, _⟩ => show win0_13.index t (0 : Fin 2) * 512 + 1 * r.val = R.val; omega
  | ⟨1, _⟩ => show win0_13.index t (1 : Fin 2) * 1024 + 1 * k.val = k.val; omega

variable (m : (ℓ : Loc nD τ sig) → Buf (Elt Ideal) ℓ) (c : Dev nD)

/-- A row of a point's block of the residual stream. -/
theorem block0 (t : Fin cfg0.N) (r : Fin 512) (k : Fin 1024) (R : Fin 32768) (hR : R.val = 512 * t.val + r.val) :
    (iblk m c 0 t : Vec Ideal S512x1024 .f32) (ix2 r k) = m ((c : Thread nD τ).loc main_arg0) (ix2 R k) := by
  show V m c main_arg0 (((cfg0.win 0).blk t).view.emb (ix2 r k)) = _
  rw [emb0 t r k R hR, V_main_arg0]

/-- A row of a point's block of the attention's output. -/
theorem block1 (t : Fin cfg0.N) (r : Fin 512) (k : Fin 1024) (R : Fin 32768) (hR : R.val = 512 * t.val + r.val) :
    (iblk m c 1 t : Vec Ideal S512x1024 .bf16) (ix2 r k) = m ((c : Thread nD τ).loc main_arg1) (ix2 R k) := by
  show V m c main_arg1 (((cfg0.win 1).blk t).view.emb (ix2 r k)) = _
  rw [emb1 t r k R hR, V_main_arg1]

/-- A row of a point's block of the recurrent layer's output. -/
theorem block2 (t : Fin cfg0.N) (r : Fin 512) (k : Fin 512) (R : Fin 32768) (hR : R.val = 512 * t.val + r.val) :
    (iblk m c 2 t : Vec Ideal S512x512 .bf16) (ix2 r k) = m ((c : Thread nD τ).loc main_arg2) (ix2 R k) := by
  show V m c main_arg2 (((cfg0.win 2).blk t).view.emb (ix2 r k)) = _
  rw [emb2 t r k R hR, V_main_arg2]

/-- The heads' weights of a point. -/
theorem block3 (t : Fin cfg0.N) (p : Fin 4) (k : Fin 256) (l : Fin 128) :
    (iblk m c 3 t : Vec Ideal S4x256x128 .bf16) (ix3 p k l) = stack (F := Ideal) (m ((c : Thread nD τ).loc main_arg3)) (ix3 p k l) := by
  show V m c main_v63 (((cfg0.win 3).blk t).view.emb (ix3 p k l)) = _
  rw [emb3, weights_eq]

/-- The first half of the merging weights of a point. -/
theorem block4 (t : Fin cfg0.N) (k : Fin 512) (l : Fin 1024) :
    (iblk m c 4 t : Vec Ideal S512x1024 .bf16) (ix2 k l) = (m ((c : Thread nD τ).loc main_arg4) : FVec Ideal S1024x1024 .f32) (ix2 ⟨k.val, by omega⟩ l) := by
  show V m c main_v65 (((cfg0.win 4).blk t).view.emb (ix2 k l)) = _
  rw [emb4, upper_eq]
  generalize (m ((c : Thread nD τ).loc main_arg4) : FVec Ideal S1024x1024 .f32) = w
  pointwise []

/-- The second half of the merging weights of a point. -/
theorem block5 (t : Fin cfg0.N) (k : Fin 512) (l : Fin 1024) :
    (iblk m c 5 t : Vec Ideal S512x1024 .bf16) (ix2 k l) = (m ((c : Thread nD τ).loc main_arg4) : FVec Ideal S1024x1024 .f32) (ix2 ⟨512 + k.val, by omega⟩ l) := by
  show V m c main_v67 (((cfg0.win 5).blk t).view.emb (ix2 k l)) = _
  rw [emb5, lower_eq]
  generalize (m ((c : Thread nD τ).loc main_arg4) : FVec Ideal S1024x1024 .f32) = w
  pointwise []

theorem block6 (t : Fin cfg0.N) (k : Fin 1024) :
    (iblk m c 6 t : Vec Ideal S1x1024 .f32) (ix2 0 k) = (m ((c : Thread nD τ).loc main_arg5) : FVec Ideal S1024 .f32) (ix1 k) := by
  show V m c main_v68 (((cfg0.win 6).blk t).view.emb (ix2 0 k)) = _
  rw [emb6, scale1_eq]
  generalize (m ((c : Thread nD τ).loc main_arg5) : FVec Ideal S1024 .f32) = w
  pointwise []

theorem block7 (t : Fin cfg0.N) (k : Fin 1024) :
    (iblk m c 7 t : Vec Ideal S1x1024 .f32) (ix2 0 k) = (m ((c : Thread nD τ).loc main_arg6) : FVec Ideal S1024 .f32) (ix1 k) := by
  show V m c main_v69 (((cfg0.win 7).blk t).view.emb (ix2 0 k)) = _
  rw [emb7, shift1_eq]
  generalize (m ((c : Thread nD τ).loc main_arg6) : FVec Ideal S1024 .f32) = w
  pointwise []

theorem block11 (t : Fin cfg0.N) (k : Fin 1024) :
    (iblk m c 11 t : Vec Ideal S1x1024 .f32) (ix2 0 k) = (m ((c : Thread nD τ).loc main_arg10) : FVec Ideal S1024 .f32) (ix1 k) := by
  show V m c main_v73 (((cfg0.win 11).blk t).view.emb (ix2 0 k)) = _
  rw [emb11, scale2_eq]
  generalize (m ((c : Thread nD τ).loc main_arg10) : FVec Ideal S1024 .f32) = w
  pointwise []

theorem block12 (t : Fin cfg0.N) (k : Fin 1024) :
    (iblk m c 12 t : Vec Ideal S1x1024 .f32) (ix2 0 k) = (m ((c : Thread nD τ).loc main_arg11) : FVec Ideal S1024 .f32) (ix1 k) := by
  show V m c main_v74 (((cfg0.win 12).blk t).view.emb (ix2 0 k)) = _
  rw [emb12, shift2_eq]
  generalize (m ((c : Thread nD τ).loc main_arg11) : FVec Ideal S1024 .f32) = w
  pointwise []

theorem block8 (t : Fin cfg0.N) (k : Fin 1024) (l : Fin 2816) :
    (iblk m c 8 t : Vec Ideal S1024x2816 .bf16) (ix2 k l) = (m ((c : Thread nD τ).loc main_arg7) : FVec Ideal S1024x2816 .f32) (ix2 k l) := by
  show V m c main_v70 (((cfg0.win 8).blk t).view.emb (ix2 k l)) = _
  rw [emb8, gate_eq]
  rfl

theorem block9 (t : Fin cfg0.N) (k : Fin 1024) (l : Fin 2816) :
    (iblk m c 9 t : Vec Ideal S1024x2816 .bf16) (ix2 k l) = (m ((c : Thread nD τ).loc main_arg8) : FVec Ideal S1024x2816 .f32) (ix2 k l) := by
  show V m c main_v71 (((cfg0.win 9).blk t).view.emb (ix2 k l)) = _
  rw [emb9, up_eq]
  rfl

theorem block10 (t : Fin cfg0.N) (k : Fin 2816) (l : Fin 1024) :
    (iblk m c 10 t : Vec Ideal S2816x1024 .bf16) (ix2 k l) = (m ((c : Thread nD τ).loc main_arg9) : FVec Ideal S2816x1024 .f32) (ix2 k l) := by
  show V m c main_v72 (((cfg0.win 10).blk t).view.emb (ix2 k l)) = _
  rw [emb10, down_eq]
  rfl

/-- A pair of heads' product with the laid-out weights. -/
theorem heads_stack (o : Vec Ideal S512x1024 .bf16) (w : FVec Ideal S128x8x64 .f32) (r : Fin 512) (l : Fin 512) :
    (∑ k : Fin 256, o (ix2 r ⟨256 * (l.val / 128) + k.val, by omega⟩) * stack w (ix3 ⟨l.val / 128, by omega⟩ k ⟨l.val % 128, by omega⟩))
      = heads (fun k => o (ix2 r k)) (fun k h n => w (ix3 k h n)) l := by
  refine Eq.trans (Finset.sum_congr rfl fun k _ => ?_) (heads_pair (fun k => o (ix2 r k)) (fun k h n => w (ix3 k h n)) l)
  rw [stack_apply]
  refine congrArg₂ (· * ·) rfl (congrArg₂ (· * ·) rfl (congrArg (fun n => w (ix3 _ _ n)) (Fin.ext ?_)))
  show l.val % 128 % 64 = l.val % 64
  omega

/-- The merged outputs of a point, from the arguments. -/
theorem merge_block (t : Fin cfg0.N) (r : Fin 512) (R : Fin 32768) (hR : R.val = 512 * t.val + r.val) (j : Fin 1024) :
    mergeRows (iblk m c 1 t : Vec Ideal S512x1024 .bf16) (iblk m c 2 t : Vec Ideal S512x512 .bf16) (iblk m c 3 t : Vec Ideal S4x256x128 .bf16)
        (iblk m c 4 t : Vec Ideal S512x1024 .bf16) (iblk m c 5 t : Vec Ideal S512x1024 .bf16) (ix2 r j)
      = merged (fun k => m ((c : Thread nD τ).loc main_arg1) (ix2 R k)) (fun k => m ((c : Thread nD τ).loc main_arg2) (ix2 R k)) (fun k h n => m ((c : Thread nD τ).loc main_arg3) (ix3 k h n)) (fun k l => m ((c : Thread nD τ).loc main_arg4) (ix2 k l)) j := by
  rw [merge_apply]
  unfold merged
  refine congrArg₂ (· + ·) (Finset.sum_congr rfl fun l _ => ?_) (Finset.sum_congr rfl fun l _ => ?_)
  · simp only [block3]
    rw [heads_stack, block4]
    simp only [block1 m c t r _ R hR]
  · rw [block2 m c t r l R hR, block5]

/-- The kernel's result at an index. -/
theorem value (R : Fin 32768) (j : Fin 1024) :
    ((dats m 0 c).arrAt 13 cfg0.N : Vec Ideal S32768x1024 .f32) (ix2 R j)
      = block (norm (joined (fun k => m ((c : Thread nD τ).loc main_arg0) (ix2 R k)) (fun k => m ((c : Thread nD τ).loc main_arg1) (ix2 R k)) (fun k => m ((c : Thread nD τ).loc main_arg2) (ix2 R k))
            (fun k h n => m ((c : Thread nD τ).loc main_arg3) (ix3 k h n)) (fun k l => m ((c : Thread nD τ).loc main_arg4) (ix2 k l))) (fun k => m ((c : Thread nD τ).loc main_arg5) (ix1 k)) (fun k => m ((c : Thread nD τ).loc main_arg6) (ix1 k)))
          (fun k f => m ((c : Thread nD τ).loc main_arg7) (ix2 k f)) (fun k f => m ((c : Thread nD τ).loc main_arg8) (ix2 k f)) (fun f k => m ((c : Thread nD τ).loc main_arg9) (ix2 f k)) (fun k => m ((c : Thread nD τ).loc main_arg10) (ix1 k)) (fun k => m ((c : Thread nD τ).loc main_arg11) (ix1 k)) j := by
  have hR := R.isLt
  obtain ⟨t, ht⟩ : ∃ t : Fin cfg0.N, t.val = R.val / 512 := ⟨⟨_, lt_of_lt_of_eq (by omega) N_0.symm⟩, rfl⟩
  obtain ⟨r, hr⟩ : ∃ r : Fin 512, r.val = R.val % 512 := ⟨⟨_, by omega⟩, rfl⟩
  have hRr : R.val = 512 * t.val + r.val := by omega
  have hb := congrFun (block_eq m c t) (ix2 r j)
  replace hb : ((dats m 0 c).arrAt 13 cfg0.N) (((cfg0.win 13).blk t).view.emb (ix2 r j)) = _ := hb
  rw [emb13 t r j R hRr] at hb
  refine hb.trans ?_
  refine Eq.trans (show _ = out0_13 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (ix2 r j) from rfl) ?_
  rw [out_apply]
  simp only [block0 m c t r _ R hRr, merge_block m c t r R hRr, block6, block7, block8, block9, block10, block11, block12]
  rfl

end Cert.Kernel2Ideal.Out

end
-- ==== Proof.lean ====
/- The certificate's claims, assembled. The frames are the generated runs; the masking constant's naming is the rule's own
   statement; the kernel's and the reference's results are both read as the attention of the arguments (Proof/Result.lean):
   the kernel's by Proof/Values.lean, the reference's by Proof/RefValue.lean, on arguments the precondition makes reals. The first feed-forward call and the output call need no precondition: each
   side is read as the same row function (Proof/FeedForward.lean, Proof/OutPart.lean) of the arguments. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.RefValue
public import proofs.«01_k».proof.Proof.Values
public import proofs.«01_k».proof.Proof.Finite
public import proofs.«01_k».proof.Proof.FfnRef
public import proofs.«01_k».proof.Proof.FfnValues
public import proofs.«01_k».proof.Proof.OutRef
public import proofs.«01_k».proof.Proof.OutValues
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  IdealRules.named_const.statement Cert.KernelIdeal.κ "mask" .f32 0xF149F2CA#32 ⊥ rfl

theorem pre_facts : Cert.Pre_finite.Facts := ⟨by decide, by decide, by decide⟩

/-- Both programs end with the attention of the shared arguments, by rows. -/
theorem algebraic_KernelIdeal_ReferenceIdeal [hPre_finite : Cert.Pre_finite.Facts] : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have h0 := Cert.Pre_finite.real_fst _ _ (hpre c).1
  have h1 := Cert.Pre_finite.real_snd _ _ (hpre c).2
  refine (Cert.ReferenceIdeal.Read.val_main_v33_eq (F := Ideal) m' c).trans ?_
  funext i
  refine Eq.trans ?_ (Cert.KernelIdeal.Att.value m c h0 h1 i).symm
  refine Eq.trans (congrFun (congrArg₂ (Cert.ReferenceIdeal.Read.val_main_v33 (F := Ideal)) (hagree c).1 (hagree c).2) i) ?_
  exact Cert.ReferenceIdeal.Att.value _ _ h0 h1 i

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs end with the same merged, normalised and fed-forward rows of the shared arguments. -/
theorem algebraic_Kernel2Ideal_Reference2Ideal : algebraic_Kernel2Ideal_Reference2Ideal := by
  intro m ρ m' ρ' _ hagree
  refine ⟨_, Cert.Kernel2Ideal.Out.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4, h5, h6, h7, h8, h9, h10, h11⟩ := hagree c
  refine (Cert.Reference2Ideal.Read.val_main_v68_eq (F := Ideal) (StableHlo.launchContents m' c)).trans ?_
  show Cert.Reference2Ideal.Read.val_main_v68 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))
    (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9))
    (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
  funext i
  have hi : i = ix2 (i 0) (i 1) := funext fun a => match a with | ⟨0, _⟩ => rfl | ⟨1, _⟩ => rfl
  rw [hi]
  refine Eq.trans ?_ (Cert.Kernel2Ideal.Out.value m c (i 0) (i 1)).symm
  rw [h0, h1, h2, h3, h4, h5, h6, h7, h8, h9, h10, h11]
  exact Cert.Reference2Ideal.Out.value ..

/-- Both programs end with the same fed-forward rows of the shared arguments. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1, h2, h3, h4, h5⟩ := hagree c
  refine (Cert.Reference3Ideal.Read.val_main_v33_eq (F := Ideal) m' c).trans ?_
  funext i
  have hi : i = ix2 (i 0) (i 1) := funext fun a => match a with | ⟨0, _⟩ => rfl | ⟨1, _⟩ => rfl
  rw [hi]
  refine Eq.trans ?_ (Cert.Kernel3Ideal.Ffn.value m c (i 0) (i 1)).symm
  rw [h0, h1, h2, h3, h4, h5]
  exact Cert.Reference3Ideal.Ffn.value ..

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  preserves_Kernel_KernelIdeal, algebraic_KernelIdeal_ReferenceIdeal (hPre_finite := pre_facts),
  trivial, algebraic_Kernel2Ideal_Reference2Ideal, trivial, algebraic_Kernel3Ideal_Reference3Ideal⟩

end Cert.Proof

end
